-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v6)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v6) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Reference (hReference := hReference) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
-- ==== Pre_in_range.lean ====
abbrev S262144x256 : Shape := ⟨2, ![262144, 256]⟩
abbrev S262144x2 : Shape := ⟨2, ![262144, 2]⟩
abbrev S50x128 : Shape := ⟨2, ![50, 128]⟩
abbrev S_ : Shape := ⟨0, ![]⟩

class Facts : Prop where
  bcast_S_S262144x2 : S_.BroadcastsInDim S262144x2 (![] : Fin 0 → Fin S262144x2.rank)
  reducesTo_S262144x2_S_d0_1 : S262144x2.ReducesTo [0, 1] S_
  h_S_ : 0 < S_.numel

variable [Facts]

def fn {F : FTy → Type} [FloatOps F] (main_arg0 : FVec F S262144x256 .f32) (main_arg1 : IVec S262144x2 32) (main_arg2 : FVec F S50x128 .f32) (main_arg3 : FVec F S50x128 .f32) : IVec S_ 1 :=
  let main_c : IVec S_ 32 := constantI S_ 32 0#32
  let main_v0 : IVec S262144x2 32 := broadcastInDim S262144x2 ![] bcast_S_S262144x2 main_c
  let main_v1 : IVec S262144x2 1 := cmpi .sge main_arg1 main_v0
  let main_c_0 : IVec S_ 32 := constantI S_ 32 50#32
  let main_v2 : IVec S262144x2 32 := broadcastInDim S262144x2 ![] bcast_S_S262144x2 main_c_0
  let main_v3 : IVec S262144x2 1 := cmpi .slt main_arg1 main_v2
  let main_v4 : IVec S262144x2 1 := andi main_v1 main_v3
  let main_c_1 : IVec S_ 1 := constantI S_ 1 1#1
  let main_v5 : IVec S_ 1 := (fun x v => Host.reduce IntOp.andi x v reducesTo_S262144x2_S_d0_1 h_S_) main_v4 main_c_1
  main_v5
-- ==== Kernel.lean ====
abbrev S262144x256 : Shape := ⟨2, ![262144, 256]⟩
abbrev S262144x2 : Shape := ⟨2, ![262144, 2]⟩
abbrev S50x128 : Shape := ⟨2, ![50, 128]⟩
abbrev S262144x1 : Shape := ⟨2, ![262144, 1]⟩
abbrev S262144 : Shape := ⟨1, ![262144]⟩
abbrev S4096x64 : Shape := ⟨2, ![4096, 64]⟩
abbrev S64x128 : Shape := ⟨2, ![64, 128]⟩
abbrev S_ : Shape := ⟨0, ![]⟩
abbrev S2x1x64 : Shape := ⟨3, ![2, 1, 64]⟩
abbrev S2 : Shape := ⟨1, ![2]⟩
abbrev S2x64x256 : Shape := ⟨3, ![2, 64, 256]⟩
abbrev S1x1x64 : Shape := ⟨3, ![1, 1, 64]⟩
abbrev S1x64 : Shape := ⟨2, ![1, 64]⟩
abbrev S1 : Shape := ⟨1, ![1]⟩
abbrev S1x64x256 : Shape := ⟨3, ![1, 64, 256]⟩
abbrev S64x256 : Shape := ⟨2, ![64, 256]⟩
abbrev S64 : Shape := ⟨1, ![64]⟩
abbrev S1x16 : Shape := ⟨2, ![1, 16]⟩
abbrev S16 : Shape := ⟨1, ![16]⟩

abbrev nBuf : Table → Nat
  | .hbm => 11
  | .local .scVector .vmem => 6
  | _ => 0

abbrev bufTy : (tb : Table) → Fin (nBuf tb) → BufTy
  | .hbm, ⟨0, _⟩ => ⟨S262144x256, .f32⟩
  | .hbm, ⟨1, _⟩ => ⟨S262144x2, .i32⟩
  | .hbm, ⟨2, _⟩ => ⟨S50x128, .f32⟩
  | .hbm, ⟨3, _⟩ => ⟨S50x128, .f32⟩
  | .hbm, ⟨4, _⟩ => ⟨S262144x1, .i32⟩
  | .hbm, ⟨5, _⟩ => ⟨S262144, .i32⟩
  | .hbm, ⟨6, _⟩ => ⟨S4096x64, .i32⟩
  | .hbm, ⟨7, _⟩ => ⟨S262144x1, .i32⟩
  | .hbm, ⟨8, _⟩ => ⟨S262144, .i32⟩
  | .hbm, ⟨9, _⟩ => ⟨S4096x64, .i32⟩
  | .hbm, ⟨10, _⟩ => ⟨S262144x256, .f32⟩
  | .local .scVector .vmem, ⟨0, _⟩ => ⟨S64x128, .f32⟩
  | .local .scVector .vmem, ⟨1, _⟩ => ⟨S64x128, .f32⟩
  | .local .scVector .vmem, ⟨2, _⟩ => ⟨S2x1x64, .i32⟩
  | .local .scVector .vmem, ⟨3, _⟩ => ⟨S2x1x64, .i32⟩
  | .local .scVector .vmem, ⟨4, _⟩ => ⟨S2x64x256, .f32⟩
  | .local .scVector .vmem, ⟨5, _⟩ => ⟨S2x64x256, .f32⟩
  | _, _ => ⟨S262144x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_arg0_scv : Ref sig .scVector := ⟨.hbm, 0, rfl⟩
abbrev main_v2_scv : Ref sig .scVector := ⟨.hbm, 6, rfl⟩
abbrev main_v5_scv : Ref sig .scVector := ⟨.hbm, 9, rfl⟩
abbrev main_arg2_scv : Ref sig .scVector := ⟨.hbm, 2, rfl⟩
abbrev main_arg3_scv : Ref sig .scVector := ⟨.hbm, 3, rfl⟩
abbrev main_v6_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scoped0 : Ref sig .scVector := ⟨.vmem, 2, rfl⟩
abbrev cc0_scoped2 : Ref sig .scVector := ⟨.vmem, 3, rfl⟩
abbrev cc0_scoped4 : Ref sig .scVector := ⟨.vmem, 4, rfl⟩
abbrev cc0_scoped6 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_15_r0 : BitVec 32 := 0#32
  let c2_i32_r0 : BitVec 32 := 2#32
  let v23_r0 : BitVec 32 := Scalar.remui c0_i32_15_r0 c2_i32_r0
  let c0_i32_17_r0 : BitVec 32 := 0#32
  let c0_i32_18_r0 : BitVec 32 := 0#32
  ![v23_r0.toNat, 0, 0]
def k0_off2 (i : grid0.Coords) : Fin 2 → Nat :=
  let c1_i32_16_r0 : BitVec 32 := 1#32
  let c0_i32_3_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v9_r0 : BitVec 32 := Scalar.addi c0_i32_3_r0 v4
  let v24_r0 : BitVec 32 := Scalar.muli c1_i32_16_r0 v9_r0
  let c0_i32_19_r0 : BitVec 32 := 0#32
  ![v24_r0.toNat, 0]
def k0_off3 : Fin 1 → Nat :=
  let c0_i32_15_r0 : BitVec 32 := 0#32
  let c2_i32_r0 : BitVec 32 := 2#32
  let v23_r0 : BitVec 32 := Scalar.remui c0_i32_15_r0 c2_i32_r0
  ![v23_r0.toNat]
def k0_off4 : Fin 3 → Nat :=
  let c0_i32_36_r0 : BitVec 32 := 0#32
  let c2_i32_37_r0 : BitVec 32 := 2#32
  let v45_r0 : BitVec 32 := Scalar.remui c0_i32_36_r0 c2_i32_37_r0
  let c0_i32_38_r0 : BitVec 32 := 0#32
  let c0_i32_39_r0 : BitVec 32 := 0#32
  ![v45_r0.toNat, 0, 0]
def k0_off5 (i : grid0.Coords) : Fin 2 → Nat :=
  let c64_i32_r0 : BitVec 32 := 64#32
  let c0_i32_3_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v9_r0 : BitVec 32 := Scalar.addi c0_i32_3_r0 v4
  let v46_r0 : BitVec 32 := Scalar.muli c64_i32_r0 v9_r0
  let c0_i32_40_r0 : BitVec 32 := 0#32
  ![v46_r0.toNat, 0]
@[reducible] def k0_t1_loop : Scf.Loop 32 :=
  let c0_i32_52_r0 : BitVec 32 := 0#32
  let c128_i32_53_r0 : BitVec 32 := 128#32
  let v56_r0 : BitVec 32 := Scalar.addi c0_i32_52_r0 c128_i32_53_r0
  let c1_i32_54_r0 : BitVec 32 := 1#32
  ⟨c0_i32_52_r0, v56_r0, c1_i32_54_r0⟩
def k0_off6 (arg13_r0 : BitVec 32) : Fin 3 → Nat :=
  let c2_i32_182_r0 : BitVec 32 := 2#32
  let v253_r0 : BitVec 32 := Scalar.remui arg13_r0 c2_i32_182_r0
  let c0_i32_184_r0 : BitVec 32 := 0#32
  let c0_i32_185_r0 : BitVec 32 := 0#32
  ![v253_r0.toNat, 0, 0]
def k0_cond1 (i : grid0.Coords) (k0_t1 : Fin k0_t1_loop.trips) (arg21_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v90_r0 : BitVec 32 := Scalar.addi arg21_r0 v4
  let true_87_r0 : BitVec 1 := 1#1
  let c1_i32_86_r0 : BitVec 32 := 1#32
  let v96_r0 : BitVec 32 := Scalar.addi arg21_r0 c1_i32_86_r0
  let v97_r0 : BitVec 32 := Scalar.select true_87_r0 v96_r0 arg21_r0
  let c128_i32_88_r0 : BitVec 32 := 128#32
  let v98_r0 : BitVec 1 := Scalar.cmpi .eq v97_r0 c128_i32_88_r0
  let c0_i32_89_r0 : BitVec 32 := 0#32
  let v99_r0 : BitVec 32 := Scalar.select v98_r0 c0_i32_89_r0 v97_r0
  let v100_r0 : BitVec 32 := Scalar.addi v99_r0 v4
  let v106_r0 : BitVec 1 := Scalar.cmpi .ne v90_r0 v100_r0
  let c0_i32_52_r0 : BitVec 32 := 0#32
  let c1_i32_54_r0 : BitVec 32 := 1#32
  let arg12_r0 : BitVec 32 := Scf.iv c0_i32_52_r0 c1_i32_54_r0 k0_t1
  let c127_i32_94_r0 : BitVec 32 := 127#32
  let v107_r0 : BitVec 1 := Scalar.cmpi .sge arg12_r0 c127_i32_94_r0
  let true_95_r0 : BitVec 1 := 1#1
  let v108_r0 : BitVec 1 := Scalar.xori v107_r0 true_95_r0
  let v109_r0 : BitVec 1 := Scalar.andi v106_r0 v108_r0
  let true_96_r0 : BitVec 1 := 1#1
  let v110_r0 : BitVec 1 := Scalar.andi v109_r0 true_96_r0
  let v111_r0 : BitVec 32 := Scalar.extui v110_r0
  let c0_i32_97_r0 : BitVec 32 := 0#32
  let v112_r0 : BitVec 1 := Scalar.cmpi .ne v111_r0 c0_i32_97_r0
  v112_r0

def k0_off7 (i : grid0.Coords) (arg21_r0 : BitVec 32) : Fin 2 → Nat :=
  let c1_i32_183_r0 : BitVec 32 := 1#32
  let true_87_r0 : BitVec 1 := 1#1
  let c1_i32_86_r0 : BitVec 32 := 1#32
  let v96_r0 : BitVec 32 := Scalar.addi arg21_r0 c1_i32_86_r0
  let v97_r0 : BitVec 32 := Scalar.select true_87_r0 v96_r0 arg21_r0
  let c128_i32_88_r0 : BitVec 32 := 128#32
  let v98_r0 : BitVec 1 := Scalar.cmpi .eq v97_r0 c128_i32_88_r0
  let c0_i32_89_r0 : BitVec 32 := 0#32
  let v99_r0 : BitVec 32 := Scalar.select v98_r0 c0_i32_89_r0 v97_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v100_r0 : BitVec 32 := Scalar.addi v99_r0 v4
  let v254_r0 : BitVec 32 := Scalar.muli c1_i32_183_r0 v100_r0
  let c0_i32_186_r0 : BitVec 32 := 0#32
  ![v254_r0.toNat, 0]
def k0_off8 (arg13_r0 : BitVec 32) : Fin 1 → Nat :=
  let c2_i32_182_r0 : BitVec 32 := 2#32
  let v253_r0 : BitVec 32 := Scalar.remui arg13_r0 c2_i32_182_r0
  ![v253_r0.toNat]
def k0_off9 (arg15_r0 : BitVec 32) : Fin 3 → Nat :=
  let c2_i32_182_r0 : BitVec 32 := 2#32
  let v253_r0 : BitVec 32 := Scalar.remui arg15_r0 c2_i32_182_r0
  let c0_i32_184_r0 : BitVec 32 := 0#32
  let c0_i32_185_r0 : BitVec 32 := 0#32
  ![v253_r0.toNat, 0, 0]
def k0_cond2 (i : grid0.Coords) (k0_t1 : Fin k0_t1_loop.trips) (arg21_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v90_r0 : BitVec 32 := Scalar.addi arg21_r0 v4
  let true_87_r0 : BitVec 1 := 1#1
  let c1_i32_86_r0 : BitVec 32 := 1#32
  let v96_r0 : BitVec 32 := Scalar.addi arg21_r0 c1_i32_86_r0
  let v97_r0 : BitVec 32 := Scalar.select true_87_r0 v96_r0 arg21_r0
  let c128_i32_88_r0 : BitVec 32 := 128#32
  let v98_r0 : BitVec 1 := Scalar.cmpi .eq v97_r0 c128_i32_88_r0
  let c0_i32_89_r0 : BitVec 32 := 0#32
  let v99_r0 : BitVec 32 := Scalar.select v98_r0 c0_i32_89_r0 v97_r0
  let v100_r0 : BitVec 32 := Scalar.addi v99_r0 v4
  let v116_r0 : BitVec 1 := Scalar.cmpi .ne v90_r0 v100_r0
  let c0_i32_52_r0 : BitVec 32 := 0#32
  let c1_i32_54_r0 : BitVec 32 := 1#32
  let arg12_r0 : BitVec 32 := Scf.iv c0_i32_52_r0 c1_i32_54_r0 k0_t1
  let c127_i32_100_r0 : BitVec 32 := 127#32
  let v117_r0 : BitVec 1 := Scalar.cmpi .sge arg12_r0 c127_i32_100_r0
  let true_101_r0 : BitVec 1 := 1#1
  let v118_r0 : BitVec 1 := Scalar.xori v117_r0 true_101_r0
  let v119_r0 : BitVec 1 := Scalar.andi v116_r0 v118_r0
  let true_102_r0 : BitVec 1 := 1#1
  let v120_r0 : BitVec 1 := Scalar.andi v119_r0 true_102_r0
  let v121_r0 : BitVec 32 := Scalar.extui v120_r0
  let c0_i32_103_r0 : BitVec 32 := 0#32
  let v122_r0 : BitVec 1 := Scalar.cmpi .ne v121_r0 c0_i32_103_r0
  v122_r0

def k0_off10 (i : grid0.Coords) (arg21_r0 : BitVec 32) : Fin 2 → Nat :=
  let c1_i32_183_r0 : BitVec 32 := 1#32
  let true_87_r0 : BitVec 1 := 1#1
  let c1_i32_86_r0 : BitVec 32 := 1#32
  let v96_r0 : BitVec 32 := Scalar.addi arg21_r0 c1_i32_86_r0
  let v97_r0 : BitVec 32 := Scalar.select true_87_r0 v96_r0 arg21_r0
  let c128_i32_88_r0 : BitVec 32 := 128#32
  let v98_r0 : BitVec 1 := Scalar.cmpi .eq v97_r0 c128_i32_88_r0
  let c0_i32_89_r0 : BitVec 32 := 0#32
  let v99_r0 : BitVec 32 := Scalar.select v98_r0 c0_i32_89_r0 v97_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v100_r0 : BitVec 32 := Scalar.addi v99_r0 v4
  let v254_r0 : BitVec 32 := Scalar.muli c1_i32_183_r0 v100_r0
  let c0_i32_186_r0 : BitVec 32 := 0#32
  ![v254_r0.toNat, 0]
def k0_off11 (arg15_r0 : BitVec 32) : Fin 1 → Nat :=
  let c2_i32_182_r0 : BitVec 32 := 2#32
  let v253_r0 : BitVec 32 := Scalar.remui arg15_r0 c2_i32_182_r0
  ![v253_r0.toNat]
def k0_off12 (arg17_r0 : BitVec 32) : Fin 3 → Nat :=
  let c2_i32_182_r0 : BitVec 32 := 2#32
  let v253_r0 : BitVec 32 := Scalar.remui arg17_r0 c2_i32_182_r0
  let c0_i32_184_r0 : BitVec 32 := 0#32
  let c0_i32_185_r0 : BitVec 32 := 0#32
  ![v253_r0.toNat, 0, 0]
def k0_cond3 (i : grid0.Coords) (k0_t1 : Fin k0_t1_loop.trips) (arg21_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v90_r0 : BitVec 32 := Scalar.addi arg21_r0 v4
  let true_87_r0 : BitVec 1 := 1#1
  let c1_i32_86_r0 : BitVec 32 := 1#32
  let v96_r0 : BitVec 32 := Scalar.addi arg21_r0 c1_i32_86_r0
  let v97_r0 : BitVec 32 := Scalar.select true_87_r0 v96_r0 arg21_r0
  let c128_i32_88_r0 : BitVec 32 := 128#32
  let v98_r0 : BitVec 1 := Scalar.cmpi .eq v97_r0 c128_i32_88_r0
  let c0_i32_89_r0 : BitVec 32 := 0#32
  let v99_r0 : BitVec 32 := Scalar.select v98_r0 c0_i32_89_r0 v97_r0
  let v100_r0 : BitVec 32 := Scalar.addi v99_r0 v4
  let v126_r0 : BitVec 1 := Scalar.cmpi .ne v90_r0 v100_r0
  let c0_i32_52_r0 : BitVec 32 := 0#32
  let c1_i32_54_r0 : BitVec 32 := 1#32
  let arg12_r0 : BitVec 32 := Scf.iv c0_i32_52_r0 c1_i32_54_r0 k0_t1
  let c127_i32_106_r0 : BitVec 32 := 127#32
  let v127_r0 : BitVec 1 := Scalar.cmpi .sge arg12_r0 c127_i32_106_r0
  let true_107_r0 : BitVec 1 := 1#1
  let v128_r0 : BitVec 1 := Scalar.xori v127_r0 true_107_r0
  let v129_r0 : BitVec 1 := Scalar.andi v126_r0 v128_r0
  let true_108_r0 : BitVec 1 := 1#1
  let v130_r0 : BitVec 1 := Scalar.andi v129_r0 true_108_r0
  let v131_r0 : BitVec 32 := Scalar.extui v130_r0
  let c0_i32_109_r0 : BitVec 32 := 0#32
  let v132_r0 : BitVec 1 := Scalar.cmpi .ne v131_r0 c0_i32_109_r0
  v132_r0

def k0_off13 (i : grid0.Coords) (arg21_r0 : BitVec 32) : Fin 2 → Nat :=
  let c64_i32_183_r0 : BitVec 32 := 64#32
  let true_87_r0 : BitVec 1 := 1#1
  let c1_i32_86_r0 : BitVec 32 := 1#32
  let v96_r0 : BitVec 32 := Scalar.addi arg21_r0 c1_i32_86_r0
  let v97_r0 : BitVec 32 := Scalar.select true_87_r0 v96_r0 arg21_r0
  let c128_i32_88_r0 : BitVec 32 := 128#32
  let v98_r0 : BitVec 1 := Scalar.cmpi .eq v97_r0 c128_i32_88_r0
  let c0_i32_89_r0 : BitVec 32 := 0#32
  let v99_r0 : BitVec 32 := Scalar.select v98_r0 c0_i32_89_r0 v97_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v100_r0 : BitVec 32 := Scalar.addi v99_r0 v4
  let v254_r0 : BitVec 32 := Scalar.muli c64_i32_183_r0 v100_r0
  let c0_i32_186_r0 : BitVec 32 := 0#32
  ![v254_r0.toNat, 0]
def k0_off14 (arg17_r0 : BitVec 32) : Fin 1 → Nat :=
  let c2_i32_182_r0 : BitVec 32 := 2#32
  let v253_r0 : BitVec 32 := Scalar.remui arg17_r0 c2_i32_182_r0
  ![v253_r0.toNat]
def k0_off15 (arg14_r0 : BitVec 32) : Fin 3 → Nat :=
  let c2_i32_183_r0 : BitVec 32 := 2#32
  let v254_r0 : BitVec 32 := Scalar.remui arg14_r0 c2_i32_183_r0
  let c0_i32_184_r0 : BitVec 32 := 0#32
  let c0_i32_185_r0 : BitVec 32 := 0#32
  ![v254_r0.toNat, 0, 0]
def k0_cond4 (i : grid0.Coords) (k0_t1 : Fin k0_t1_loop.trips) (arg21_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v90_r0 : BitVec 32 := Scalar.addi arg21_r0 v4
  let true_83_r0 : BitVec 1 := 1#1
  let c1_i32_82_r0 : BitVec 32 := 1#32
  let v91_r0 : BitVec 32 := Scalar.subi arg21_r0 c1_i32_82_r0
  let v92_r0 : BitVec 32 := Scalar.select true_83_r0 v91_r0 arg21_r0
  let c_m1_i32_84_r0 : BitVec 32 := 4294967295#32
  let v93_r0 : BitVec 1 := Scalar.cmpi .eq v92_r0 c_m1_i32_84_r0
  let c127_i32_85_r0 : BitVec 32 := 127#32
  let v94_r0 : BitVec 32 := Scalar.select v93_r0 c127_i32_85_r0 v92_r0
  let v95_r0 : BitVec 32 := Scalar.addi v94_r0 v4
  let v140_r0 : BitVec 1 := Scalar.cmpi .ne v90_r0 v95_r0
  let c0_i32_52_r0 : BitVec 32 := 0#32
  let c1_i32_54_r0 : BitVec 32 := 1#32
  let arg12_r0 : BitVec 32 := Scf.iv c0_i32_52_r0 c1_i32_54_r0 k0_t1
  let c0_i32_80_r0 : BitVec 32 := 0#32
  let v88_r0 : BitVec 1 := Scalar.cmpi .eq arg12_r0 c0_i32_80_r0
  let v141_r0 : BitVec 1 := Scalar.ori v140_r0 v88_r0
  let c0_i32_114_r0 : BitVec 32 := 0#32
  let v142_r0 : BitVec 1 := Scalar.cmpi .sge arg12_r0 c0_i32_114_r0
  let v143_r0 : BitVec 1 := Scalar.andi v141_r0 v142_r0
  let v144_r0 : BitVec 32 := Scalar.extui v143_r0
  let c0_i32_115_r0 : BitVec 32 := 0#32
  let v145_r0 : BitVec 1 := Scalar.cmpi .ne v144_r0 c0_i32_115_r0
  v145_r0

def k0_off16 (i : grid0.Coords) (arg21_r0 : BitVec 32) : Fin 2 → Nat :=
  let c1_i32_182_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v90_r0 : BitVec 32 := Scalar.addi arg21_r0 v4
  let v253_r0 : BitVec 32 := Scalar.muli c1_i32_182_r0 v90_r0
  let c0_i32_186_r0 : BitVec 32 := 0#32
  ![v253_r0.toNat, 0]
def k0_off17 (arg14_r0 : BitVec 32) : Fin 1 → Nat :=
  let c2_i32_183_r0 : BitVec 32 := 2#32
  let v254_r0 : BitVec 32 := Scalar.remui arg14_r0 c2_i32_183_r0
  ![v254_r0.toNat]
def k0_off18 (arg16_r0 : BitVec 32) : Fin 3 → Nat :=
  let c2_i32_183_r0 : BitVec 32 := 2#32
  let v254_r0 : BitVec 32 := Scalar.remui arg16_r0 c2_i32_183_r0
  let c0_i32_184_r0 : BitVec 32 := 0#32
  let c0_i32_185_r0 : BitVec 32 := 0#32
  ![v254_r0.toNat, 0, 0]
def k0_cond5 (i : grid0.Coords) (k0_t1 : Fin k0_t1_loop.trips) (arg21_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v90_r0 : BitVec 32 := Scalar.addi arg21_r0 v4
  let true_83_r0 : BitVec 1 := 1#1
  let c1_i32_82_r0 : BitVec 32 := 1#32
  let v91_r0 : BitVec 32 := Scalar.subi arg21_r0 c1_i32_82_r0
  let v92_r0 : BitVec 32 := Scalar.select true_83_r0 v91_r0 arg21_r0
  let c_m1_i32_84_r0 : BitVec 32 := 4294967295#32
  let v93_r0 : BitVec 1 := Scalar.cmpi .eq v92_r0 c_m1_i32_84_r0
  let c127_i32_85_r0 : BitVec 32 := 127#32
  let v94_r0 : BitVec 32 := Scalar.select v93_r0 c127_i32_85_r0 v92_r0
  let v95_r0 : BitVec 32 := Scalar.addi v94_r0 v4
  let v146_r0 : BitVec 1 := Scalar.cmpi .ne v90_r0 v95_r0
  let c0_i32_52_r0 : BitVec 32 := 0#32
  let c1_i32_54_r0 : BitVec 32 := 1#32
  let arg12_r0 : BitVec 32 := Scf.iv c0_i32_52_r0 c1_i32_54_r0 k0_t1
  let c0_i32_80_r0 : BitVec 32 := 0#32
  let v88_r0 : BitVec 1 := Scalar.cmpi .eq arg12_r0 c0_i32_80_r0
  let v147_r0 : BitVec 1 := Scalar.ori v146_r0 v88_r0
  let c0_i32_116_r0 : BitVec 32 := 0#32
  let v148_r0 : BitVec 1 := Scalar.cmpi .sge arg12_r0 c0_i32_116_r0
  let v149_r0 : BitVec 1 := Scalar.andi v147_r0 v148_r0
  let v150_r0 : BitVec 32 := Scalar.extui v149_r0
  let c0_i32_117_r0 : BitVec 32 := 0#32
  let v151_r0 : BitVec 1 := Scalar.cmpi .ne v150_r0 c0_i32_117_r0
  v151_r0

def k0_off19 (i : grid0.Coords) (arg21_r0 : BitVec 32) : Fin 2 → Nat :=
  let c1_i32_182_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v90_r0 : BitVec 32 := Scalar.addi arg21_r0 v4
  let v253_r0 : BitVec 32 := Scalar.muli c1_i32_182_r0 v90_r0
  let c0_i32_186_r0 : BitVec 32 := 0#32
  ![v253_r0.toNat, 0]
def k0_off20 (arg16_r0 : BitVec 32) : Fin 1 → Nat :=
  let c2_i32_183_r0 : BitVec 32 := 2#32
  let v254_r0 : BitVec 32 := Scalar.remui arg16_r0 c2_i32_183_r0
  ![v254_r0.toNat]
def k0_off21 (arg18_r0 : BitVec 32) : Fin 3 → Nat :=
  let c2_i32_183_r0 : BitVec 32 := 2#32
  let v254_r0 : BitVec 32 := Scalar.remui arg18_r0 c2_i32_183_r0
  let c0_i32_184_r0 : BitVec 32 := 0#32
  let c0_i32_185_r0 : BitVec 32 := 0#32
  ![v254_r0.toNat, 0, 0]
def k0_cond6 (i : grid0.Coords) (k0_t1 : Fin k0_t1_loop.trips) (arg21_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v90_r0 : BitVec 32 := Scalar.addi arg21_r0 v4
  let true_83_r0 : BitVec 1 := 1#1
  let c1_i32_82_r0 : BitVec 32 := 1#32
  let v91_r0 : BitVec 32 := Scalar.subi arg21_r0 c1_i32_82_r0
  let v92_r0 : BitVec 32 := Scalar.select true_83_r0 v91_r0 arg21_r0
  let c_m1_i32_84_r0 : BitVec 32 := 4294967295#32
  let v93_r0 : BitVec 1 := Scalar.cmpi .eq v92_r0 c_m1_i32_84_r0
  let c127_i32_85_r0 : BitVec 32 := 127#32
  let v94_r0 : BitVec 32 := Scalar.select v93_r0 c127_i32_85_r0 v92_r0
  let v95_r0 : BitVec 32 := Scalar.addi v94_r0 v4
  let v152_r0 : BitVec 1 := Scalar.cmpi .ne v90_r0 v95_r0
  let c0_i32_52_r0 : BitVec 32 := 0#32
  let c1_i32_54_r0 : BitVec 32 := 1#32
  let arg12_r0 : BitVec 32 := Scf.iv c0_i32_52_r0 c1_i32_54_r0 k0_t1
  let c0_i32_80_r0 : BitVec 32 := 0#32
  let v88_r0 : BitVec 1 := Scalar.cmpi .eq arg12_r0 c0_i32_80_r0
  let v153_r0 : BitVec 1 := Scalar.ori v152_r0 v88_r0
  let c0_i32_118_r0 : BitVec 32 := 0#32
  let v154_r0 : BitVec 1 := Scalar.cmpi .sge arg12_r0 c0_i32_118_r0
  let v155_r0 : BitVec 1 := Scalar.andi v153_r0 v154_r0
  let v156_r0 : BitVec 32 := Scalar.extui v155_r0
  let c0_i32_119_r0 : BitVec 32 := 0#32
  let v157_r0 : BitVec 1 := Scalar.cmpi .ne v156_r0 c0_i32_119_r0
  v157_r0

def k0_off22 (i : grid0.Coords) (arg21_r0 : BitVec 32) : Fin 2 → Nat :=
  let c64_i32_182_r0 : BitVec 32 := 64#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v90_r0 : BitVec 32 := Scalar.addi arg21_r0 v4
  let v253_r0 : BitVec 32 := Scalar.muli c64_i32_182_r0 v90_r0
  let c0_i32_186_r0 : BitVec 32 := 0#32
  ![v253_r0.toNat, 0]
def k0_off23 (arg18_r0 : BitVec 32) : Fin 1 → Nat :=
  let c2_i32_183_r0 : BitVec 32 := 2#32
  let v254_r0 : BitVec 32 := Scalar.remui arg18_r0 c2_i32_183_r0
  ![v254_r0.toNat]
def k0_off24 (arg14_r0 : BitVec 32) : Fin 3 → Nat :=
  let c2_i32_122_r0 : BitVec 32 := 2#32
  let v164_r0 : BitVec 32 := Scalar.remui arg14_r0 c2_i32_122_r0
  let c0_i32_127_r0 : BitVec 32 := 0#32
  let c0_i32_128_r0 : BitVec 32 := 0#32
  ![v164_r0.toNat, 0, 0]

def k0_chk2 (arg14_r0 : BitVec 32) : Prop :=
  (∀ a, (k0_off24 arg14_r0) a + S1x1x64.size a ≤ S2x1x64.size a)
theorem k0_off24_inb : ∀ (arg14_r0 : BitVec 32) (k0_hw2 : k0_chk2 arg14_r0), ∀ a, (k0_off24 arg14_r0) a + S1x1x64.size a ≤ S2x1x64.size a := fun arg14_r0 k0_hw2 => k0_hw2

def k0_off25 (arg16_r0 : BitVec 32) : Fin 3 → Nat :=
  let c2_i32_123_r0 : BitVec 32 := 2#32
  let v165_r0 : BitVec 32 := Scalar.remui arg16_r0 c2_i32_123_r0
  let c0_i32_133_r0 : BitVec 32 := 0#32
  let c0_i32_134_r0 : BitVec 32 := 0#32
  ![v165_r0.toNat, 0, 0]

def k0_chk3 (arg16_r0 : BitVec 32) : Prop :=
  (∀ a, (k0_off25 arg16_r0) a + S1x1x64.size a ≤ S2x1x64.size a)
theorem k0_off25_inb : ∀ (arg16_r0 : BitVec 32) (k0_hw3 : k0_chk3 arg16_r0), ∀ a, (k0_off25 arg16_r0) a + S1x1x64.size a ≤ S2x1x64.size a := fun arg16_r0 k0_hw3 => k0_hw3

@[reducible] def k0_t2_loop : Scf.Loop 32 :=
  let c0_i32_150_r0 : BitVec 32 := 0#32
  let c64_i32_151_r0 : BitVec 32 := 64#32
  let v188_r0 : BitVec 32 := Scalar.addi c0_i32_150_r0 c64_i32_151_r0
  let c1_i32_152_r0 : BitVec 32 := 1#32
  ⟨c0_i32_150_r0, v188_r0, c1_i32_152_r0⟩
def k0_off26 (arg18_r0 : BitVec 32) : Fin 3 → Nat :=
  let c2_i32_124_r0 : BitVec 32 := 2#32
  let v166_r0 : BitVec 32 := Scalar.remui arg18_r0 c2_i32_124_r0
  let c0_i32_184_r0 : BitVec 32 := 0#32
  let c0_i32_185_r0 : BitVec 32 := 0#32
  ![v166_r0.toNat, 0, 0]

def k0_off27 (k0_t2 : Fin k0_t2_loop.trips) : Fin 2 → Nat :=
  let c0_i32_183_r0 : BitVec 32 := 0#32
  let c0_i32_150_r0 : BitVec 32 := 0#32
  let c1_i32_152_r0 : BitVec 32 := 1#32
  let arg22_r0 : BitVec 32 := Scf.iv c0_i32_150_r0 c1_i32_152_r0 k0_t2
  let c1_i32_182_r0 : BitVec 32 := 1#32
  let v253_r0 : BitVec 32 := Scalar.muli arg22_r0 c1_i32_182_r0
  let v254_r0 : BitVec 32 := Scalar.addi c0_i32_183_r0 v253_r0
  let v257_r0 : Index := Scalar.indexCast v254_r0
  let c0_r0 : Index := 0#32
  ![v257_r0.toNat, 0]
def k0_off28 (k0_t2 : Fin k0_t2_loop.trips) : Fin 2 → Nat :=
  let c0_i32_183_r0 : BitVec 32 := 0#32
  let c0_i32_150_r0 : BitVec 32 := 0#32
  let c1_i32_152_r0 : BitVec 32 := 1#32
  let arg22_r0 : BitVec 32 := Scf.iv c0_i32_150_r0 c1_i32_152_r0 k0_t2
  let c1_i32_182_r0 : BitVec 32 := 1#32
  let v253_r0 : BitVec 32 := Scalar.muli arg22_r0 c1_i32_182_r0
  let v254_r0 : BitVec 32 := Scalar.addi c0_i32_183_r0 v253_r0
  let v260_r0 : Index := Scalar.indexCast v254_r0
  let c0_186_r0 : Index := 0#32
  ![v260_r0.toNat, 0]
def k0_off29 (arg19_r0 : BitVec 32) : Fin 3 → Nat :=
  let c2_i32_125_r0 : BitVec 32 := 2#32
  let v167_r0 : BitVec 32 := Scalar.remui arg19_r0 c2_i32_125_r0
  let c0_i32_187_r0 : BitVec 32 := 0#32
  let c0_i32_188_r0 : BitVec 32 := 0#32
  ![v167_r0.toNat, 0, 0]

def k0_chk5 (arg19_r0 : BitVec 32) : Prop :=
  (∀ a, (k0_off29 arg19_r0) a + S1x64x256.size a ≤ S2x64x256.size a)
theorem k0_off29_inb : ∀ (arg19_r0 : BitVec 32) (k0_hw5 : k0_chk5 arg19_r0), ∀ a, (k0_off29 arg19_r0) a + S1x64x256.size a ≤ S2x64x256.size a := fun arg19_r0 k0_hw5 => k0_hw5

def k0_off30 (k0_t2 : Fin k0_t2_loop.trips) : Fin 2 → Nat :=
  let c0_i32_183_r0 : BitVec 32 := 0#32
  let c0_i32_150_r0 : BitVec 32 := 0#32
  let c1_i32_152_r0 : BitVec 32 := 1#32
  let arg22_r0 : BitVec 32 := Scf.iv c0_i32_150_r0 c1_i32_152_r0 k0_t2
  let c1_i32_182_r0 : BitVec 32 := 1#32
  let v253_r0 : BitVec 32 := Scalar.muli arg22_r0 c1_i32_182_r0
  let v254_r0 : BitVec 32 := Scalar.addi c0_i32_183_r0 v253_r0
  let v266_r0 : Index := Scalar.indexCast v254_r0
  let c0_189_r0 : Index := 0#32
  ![v266_r0.toNat, 0]
def k0_off31 (arg18_r0 : BitVec 32) : Fin 3 → Nat :=
  let c2_i32_124_r0 : BitVec 32 := 2#32
  let v166_r0 : BitVec 32 := Scalar.remui arg18_r0 c2_i32_124_r0
  let c0_i32_190_r0 : BitVec 32 := 0#32
  let c0_i32_191_r0 : BitVec 32 := 0#32
  ![v166_r0.toNat, 0, 0]

def k0_chk4 (arg18_r0 : BitVec 32) : Prop :=
  (∀ a, (k0_off26 arg18_r0) a + S1x64x256.size a ≤ S2x64x256.size a) ∧
  (∀ a, (k0_off31 arg18_r0) a + S1x64x256.size a ≤ S2x64x256.size a)
theorem k0_off26_inb : ∀ (arg18_r0 : BitVec 32) (k0_hw4 : k0_chk4 arg18_r0), ∀ a, (k0_off26 arg18_r0) a + S1x64x256.size a ≤ S2x64x256.size a := fun arg18_r0 k0_hw4 => k0_hw4.1
theorem k0_off31_inb : ∀ (arg18_r0 : BitVec 32) (k0_hw4 : k0_chk4 arg18_r0), ∀ a, (k0_off31 arg18_r0) a + S1x64x256.size a ≤ S2x64x256.size a := fun arg18_r0 k0_hw4 => k0_hw4.2

def k0_off32 (k0_t2 : Fin k0_t2_loop.trips) : Fin 2 → Nat :=
  let c0_i32_183_r0 : BitVec 32 := 0#32
  let c0_i32_150_r0 : BitVec 32 := 0#32
  let c1_i32_152_r0 : BitVec 32 := 1#32
  let arg22_r0 : BitVec 32 := Scf.iv c0_i32_150_r0 c1_i32_152_r0 k0_t2
  let c1_i32_182_r0 : BitVec 32 := 1#32
  let v253_r0 : BitVec 32 := Scalar.muli arg22_r0 c1_i32_182_r0
  let v254_r0 : BitVec 32 := Scalar.addi c0_i32_183_r0 v253_r0
  let v272_r0 : Index := Scalar.indexCast v254_r0
  let c128_r0 : Index := 128#32
  ![v272_r0.toNat, 128]
def k0_off33 (k0_t2 : Fin k0_t2_loop.trips) : Fin 2 → Nat :=
  let c0_i32_183_r0 : BitVec 32 := 0#32
  let c0_i32_150_r0 : BitVec 32 := 0#32
  let c1_i32_152_r0 : BitVec 32 := 1#32
  let arg22_r0 : BitVec 32 := Scf.iv c0_i32_150_r0 c1_i32_152_r0 k0_t2
  let c1_i32_182_r0 : BitVec 32 := 1#32
  let v253_r0 : BitVec 32 := Scalar.muli arg22_r0 c1_i32_182_r0
  let v254_r0 : BitVec 32 := Scalar.addi c0_i32_183_r0 v253_r0
  let v275_r0 : Index := Scalar.indexCast v254_r0
  let c0_192_r0 : Index := 0#32
  ![v275_r0.toNat, 0]
def k0_off34 (k0_t2 : Fin k0_t2_loop.trips) : Fin 2 → Nat :=
  let c0_i32_183_r0 : BitVec 32 := 0#32
  let c0_i32_150_r0 : BitVec 32 := 0#32
  let c1_i32_152_r0 : BitVec 32 := 1#32
  let arg22_r0 : BitVec 32 := Scf.iv c0_i32_150_r0 c1_i32_152_r0 k0_t2
  let c1_i32_182_r0 : BitVec 32 := 1#32
  let v253_r0 : BitVec 32 := Scalar.muli arg22_r0 c1_i32_182_r0
  let v254_r0 : BitVec 32 := Scalar.addi c0_i32_183_r0 v253_r0
  let v287_r0 : Index := Scalar.indexCast v254_r0
  let c16_r0 : Index := 16#32
  ![v287_r0.toNat, 16]
def k0_off35 (k0_t2 : Fin k0_t2_loop.trips) : Fin 2 → Nat :=
  let c0_i32_183_r0 : BitVec 32 := 0#32
  let c0_i32_150_r0 : BitVec 32 := 0#32
  let c1_i32_152_r0 : BitVec 32 := 1#32
  let arg22_r0 : BitVec 32 := Scf.iv c0_i32_150_r0 c1_i32_152_r0 k0_t2
  let c1_i32_182_r0 : BitVec 32 := 1#32
  let v253_r0 : BitVec 32 := Scalar.muli arg22_r0 c1_i32_182_r0
  let v254_r0 : BitVec 32 := Scalar.addi c0_i32_183_r0 v253_r0
  let v290_r0 : Index := Scalar.indexCast v254_r0
  let c16_198_r0 : Index := 16#32
  ![v290_r0.toNat, 16]
def k0_off36 (k0_t2 : Fin k0_t2_loop.trips) : Fin 2 → Nat :=
  let c0_i32_183_r0 : BitVec 32 := 0#32
  let c0_i32_150_r0 : BitVec 32 := 0#32
  let c1_i32_152_r0 : BitVec 32 := 1#32
  let arg22_r0 : BitVec 32 := Scf.iv c0_i32_150_r0 c1_i32_152_r0 k0_t2
  let c1_i32_182_r0 : BitVec 32 := 1#32
  let v253_r0 : BitVec 32 := Scalar.muli arg22_r0 c1_i32_182_r0
  let v254_r0 : BitVec 32 := Scalar.addi c0_i32_183_r0 v253_r0
  let v302_r0 : Index := Scalar.indexCast v254_r0
  let c144_r0 : Index := 144#32
  ![v302_r0.toNat, 144]
def k0_off37 (k0_t2 : Fin k0_t2_loop.trips) : Fin 2 → Nat :=
  let c0_i32_183_r0 : BitVec 32 := 0#32
  let c0_i32_150_r0 : BitVec 32 := 0#32
  let c1_i32_152_r0 : BitVec 32 := 1#32
  let arg22_r0 : BitVec 32 := Scf.iv c0_i32_150_r0 c1_i32_152_r0 k0_t2
  let c1_i32_182_r0 : BitVec 32 := 1#32
  let v253_r0 : BitVec 32 := Scalar.muli arg22_r0 c1_i32_182_r0
  let v254_r0 : BitVec 32 := Scalar.addi c0_i32_183_r0 v253_r0
  let v317_r0 : Index := Scalar.indexCast v254_r0
  let c32_r0 : Index := 32#32
  ![v317_r0.toNat, 32]
def k0_off38 (k0_t2 : Fin k0_t2_loop.trips) : Fin 2 → Nat :=
  let c0_i32_183_r0 : BitVec 32 := 0#32
  let c0_i32_150_r0 : BitVec 32 := 0#32
  let c1_i32_152_r0 : BitVec 32 := 1#32
  let arg22_r0 : BitVec 32 := Scf.iv c0_i32_150_r0 c1_i32_152_r0 k0_t2
  let c1_i32_182_r0 : BitVec 32 := 1#32
  let v253_r0 : BitVec 32 := Scalar.muli arg22_r0 c1_i32_182_r0
  let v254_r0 : BitVec 32 := Scalar.addi c0_i32_183_r0 v253_r0
  let v320_r0 : Index := Scalar.indexCast v254_r0
  let c32_210_r0 : Index := 32#32
  ![v320_r0.toNat, 32]
def k0_off39 (k0_t2 : Fin k0_t2_loop.trips) : Fin 2 → Nat :=
  let c0_i32_183_r0 : BitVec 32 := 0#32
  let c0_i32_150_r0 : BitVec 32 := 0#32
  let c1_i32_152_r0 : BitVec 32 := 1#32
  let arg22_r0 : BitVec 32 := Scf.iv c0_i32_150_r0 c1_i32_152_r0 k0_t2
  let c1_i32_182_r0 : BitVec 32 := 1#32
  let v253_r0 : BitVec 32 := Scalar.muli arg22_r0 c1_i32_182_r0
  let v254_r0 : BitVec 32 := Scalar.addi c0_i32_183_r0 v253_r0
  let v332_r0 : Index := Scalar.indexCast v254_r0
  let c160_r0 : Index := 160#32
  ![v332_r0.toNat, 160]
def k0_off40 (k0_t2 : Fin k0_t2_loop.trips) : Fin 2 → Nat :=
  let c0_i32_183_r0 : BitVec 32 := 0#32
  let c0_i32_150_r0 : BitVec 32 := 0#32
  let c1_i32_152_r0 : BitVec 32 := 1#32
  let arg22_r0 : BitVec 32 := Scf.iv c0_i32_150_r0 c1_i32_152_r0 k0_t2
  let c1_i32_182_r0 : BitVec 32 := 1#32
  let v253_r0 : BitVec 32 := Scalar.muli arg22_r0 c1_i32_182_r0
  let v254_r0 : BitVec 32 := Scalar.addi c0_i32_183_r0 v253_r0
  let v347_r0 : Index := Scalar.indexCast v254_r0
  let c48_r0 : Index := 48#32
  ![v347_r0.toNat, 48]
def k0_off41 (k0_t2 : Fin k0_t2_loop.trips) : Fin 2 → Nat :=
  let c0_i32_183_r0 : BitVec 32 := 0#32
  let c0_i32_150_r0 : BitVec 32 := 0#32
  let c1_i32_152_r0 : BitVec 32 := 1#32
  let arg22_r0 : BitVec 32 := Scf.iv c0_i32_150_r0 c1_i32_152_r0 k0_t2
  let c1_i32_182_r0 : BitVec 32 := 1#32
  let v253_r0 : BitVec 32 := Scalar.muli arg22_r0 c1_i32_182_r0
  let v254_r0 : BitVec 32 := Scalar.addi c0_i32_183_r0 v253_r0
  let v350_r0 : Index := Scalar.indexCast v254_r0
  let c48_222_r0 : Index := 48#32
  ![v350_r0.toNat, 48]
def k0_off42 (k0_t2 : Fin k0_t2_loop.trips) : Fin 2 → Nat :=
  let c0_i32_183_r0 : BitVec 32 := 0#32
  let c0_i32_150_r0 : BitVec 32 := 0#32
  let c1_i32_152_r0 : BitVec 32 := 1#32
  let arg22_r0 : BitVec 32 := Scf.iv c0_i32_150_r0 c1_i32_152_r0 k0_t2
  let c1_i32_182_r0 : BitVec 32 := 1#32
  let v253_r0 : BitVec 32 := Scalar.muli arg22_r0 c1_i32_182_r0
  let v254_r0 : BitVec 32 := Scalar.addi c0_i32_183_r0 v253_r0
  let v362_r0 : Index := Scalar.indexCast v254_r0
  let c176_r0 : Index := 176#32
  ![v362_r0.toNat, 176]
def k0_off43 (k0_t2 : Fin k0_t2_loop.trips) : Fin 2 → Nat :=
  let c0_i32_183_r0 : BitVec 32 := 0#32
  let c0_i32_150_r0 : BitVec 32 := 0#32
  let c1_i32_152_r0 : BitVec 32 := 1#32
  let arg22_r0 : BitVec 32 := Scf.iv c0_i32_150_r0 c1_i32_152_r0 k0_t2
  let c1_i32_182_r0 : BitVec 32 := 1#32
  let v253_r0 : BitVec 32 := Scalar.muli arg22_r0 c1_i32_182_r0
  let v254_r0 : BitVec 32 := Scalar.addi c0_i32_183_r0 v253_r0
  let v377_r0 : Index := Scalar.indexCast v254_r0
  let c64_r0 : Index := 64#32
  ![v377_r0.toNat, 64]
def k0_off44 (k0_t2 : Fin k0_t2_loop.trips) : Fin 2 → Nat :=
  let c0_i32_183_r0 : BitVec 32 := 0#32
  let c0_i32_150_r0 : BitVec 32 := 0#32
  let c1_i32_152_r0 : BitVec 32 := 1#32
  let arg22_r0 : BitVec 32 := Scf.iv c0_i32_150_r0 c1_i32_152_r0 k0_t2
  let c1_i32_182_r0 : BitVec 32 := 1#32
  let v253_r0 : BitVec 32 := Scalar.muli arg22_r0 c1_i32_182_r0
  let v254_r0 : BitVec 32 := Scalar.addi c0_i32_183_r0 v253_r0
  let v380_r0 : Index := Scalar.indexCast v254_r0
  let c64_234_r0 : Index := 64#32
  ![v380_r0.toNat, 64]
def k0_off45 (k0_t2 : Fin k0_t2_loop.trips) : Fin 2 → Nat :=
  let c0_i32_183_r0 : BitVec 32 := 0#32
  let c0_i32_150_r0 : BitVec 32 := 0#32
  let c1_i32_152_r0 : BitVec 32 := 1#32
  let arg22_r0 : BitVec 32 := Scf.iv c0_i32_150_r0 c1_i32_152_r0 k0_t2
  let c1_i32_182_r0 : BitVec 32 := 1#32
  let v253_r0 : BitVec 32 := Scalar.muli arg22_r0 c1_i32_182_r0
  let v254_r0 : BitVec 32 := Scalar.addi c0_i32_183_r0 v253_r0
  let v392_r0 : Index := Scalar.indexCast v254_r0
  let c192_r0 : Index := 192#32
  ![v392_r0.toNat, 192]
def k0_off46 (k0_t2 : Fin k0_t2_loop.trips) : Fin 2 → Nat :=
  let c0_i32_183_r0 : BitVec 32 := 0#32
  let c0_i32_150_r0 : BitVec 32 := 0#32
  let c1_i32_152_r0 : BitVec 32 := 1#32
  let arg22_r0 : BitVec 32 := Scf.iv c0_i32_150_r0 c1_i32_152_r0 k0_t2
  let c1_i32_182_r0 : BitVec 32 := 1#32
  let v253_r0 : BitVec 32 := Scalar.muli arg22_r0 c1_i32_182_r0
  let v254_r0 : BitVec 32 := Scalar.addi c0_i32_183_r0 v253_r0
  let v407_r0 : Index := Scalar.indexCast v254_r0
  let c80_r0 : Index := 80#32
  ![v407_r0.toNat, 80]
def k0_off47 (k0_t2 : Fin k0_t2_loop.trips) : Fin 2 → Nat :=
  let c0_i32_183_r0 : BitVec 32 := 0#32
  let c0_i32_150_r0 : BitVec 32 := 0#32
  let c1_i32_152_r0 : BitVec 32 := 1#32
  let arg22_r0 : BitVec 32 := Scf.iv c0_i32_150_r0 c1_i32_152_r0 k0_t2
  let c1_i32_182_r0 : BitVec 32 := 1#32
  let v253_r0 : BitVec 32 := Scalar.muli arg22_r0 c1_i32_182_r0
  let v254_r0 : BitVec 32 := Scalar.addi c0_i32_183_r0 v253_r0
  let v410_r0 : Index := Scalar.indexCast v254_r0
  let c80_246_r0 : Index := 80#32
  ![v410_r0.toNat, 80]
def k0_off48 (k0_t2 : Fin k0_t2_loop.trips) : Fin 2 → Nat :=
  let c0_i32_183_r0 : BitVec 32 := 0#32
  let c0_i32_150_r0 : BitVec 32 := 0#32
  let c1_i32_152_r0 : BitVec 32 := 1#32
  let arg22_r0 : BitVec 32 := Scf.iv c0_i32_150_r0 c1_i32_152_r0 k0_t2
  let c1_i32_182_r0 : BitVec 32 := 1#32
  let v253_r0 : BitVec 32 := Scalar.muli arg22_r0 c1_i32_182_r0
  let v254_r0 : BitVec 32 := Scalar.addi c0_i32_183_r0 v253_r0
  let v422_r0 : Index := Scalar.indexCast v254_r0
  let c208_r0 : Index := 208#32
  ![v422_r0.toNat, 208]
def k0_off49 (k0_t2 : Fin k0_t2_loop.trips) : Fin 2 → Nat :=
  let c0_i32_183_r0 : BitVec 32 := 0#32
  let c0_i32_150_r0 : BitVec 32 := 0#32
  let c1_i32_152_r0 : BitVec 32 := 1#32
  let arg22_r0 : BitVec 32 := Scf.iv c0_i32_150_r0 c1_i32_152_r0 k0_t2
  let c1_i32_182_r0 : BitVec 32 := 1#32
  let v253_r0 : BitVec 32 := Scalar.muli arg22_r0 c1_i32_182_r0
  let v254_r0 : BitVec 32 := Scalar.addi c0_i32_183_r0 v253_r0
  let v437_r0 : Index := Scalar.indexCast v254_r0
  let c96_r0 : Index := 96#32
  ![v437_r0.toNat, 96]
def k0_off50 (k0_t2 : Fin k0_t2_loop.trips) : Fin 2 → Nat :=
  let c0_i32_183_r0 : BitVec 32 := 0#32
  let c0_i32_150_r0 : BitVec 32 := 0#32
  let c1_i32_152_r0 : BitVec 32 := 1#32
  let arg22_r0 : BitVec 32 := Scf.iv c0_i32_150_r0 c1_i32_152_r0 k0_t2
  let c1_i32_182_r0 : BitVec 32 := 1#32
  let v253_r0 : BitVec 32 := Scalar.muli arg22_r0 c1_i32_182_r0
  let v254_r0 : BitVec 32 := Scalar.addi c0_i32_183_r0 v253_r0
  let v440_r0 : Index := Scalar.indexCast v254_r0
  let c96_258_r0 : Index := 96#32
  ![v440_r0.toNat, 96]
def k0_off51 (k0_t2 : Fin k0_t2_loop.trips) : Fin 2 → Nat :=
  let c0_i32_183_r0 : BitVec 32 := 0#32
  let c0_i32_150_r0 : BitVec 32 := 0#32
  let c1_i32_152_r0 : BitVec 32 := 1#32
  let arg22_r0 : BitVec 32 := Scf.iv c0_i32_150_r0 c1_i32_152_r0 k0_t2
  let c1_i32_182_r0 : BitVec 32 := 1#32
  let v253_r0 : BitVec 32 := Scalar.muli arg22_r0 c1_i32_182_r0
  let v254_r0 : BitVec 32 := Scalar.addi c0_i32_183_r0 v253_r0
  let v452_r0 : Index := Scalar.indexCast v254_r0
  let c224_r0 : Index := 224#32
  ![v452_r0.toNat, 224]
def k0_off52 (k0_t2 : Fin k0_t2_loop.trips) : Fin 2 → Nat :=
  let c0_i32_183_r0 : BitVec 32 := 0#32
  let c0_i32_150_r0 : BitVec 32 := 0#32
  let c1_i32_152_r0 : BitVec 32 := 1#32
  let arg22_r0 : BitVec 32 := Scf.iv c0_i32_150_r0 c1_i32_152_r0 k0_t2
  let c1_i32_182_r0 : BitVec 32 := 1#32
  let v253_r0 : BitVec 32 := Scalar.muli arg22_r0 c1_i32_182_r0
  let v254_r0 : BitVec 32 := Scalar.addi c0_i32_183_r0 v253_r0
  let v467_r0 : Index := Scalar.indexCast v254_r0
  let c112_r0 : Index := 112#32
  ![v467_r0.toNat, 112]
def k0_off53 (k0_t2 : Fin k0_t2_loop.trips) : Fin 2 → Nat :=
  let c0_i32_183_r0 : BitVec 32 := 0#32
  let c0_i32_150_r0 : BitVec 32 := 0#32
  let c1_i32_152_r0 : BitVec 32 := 1#32
  let arg22_r0 : BitVec 32 := Scf.iv c0_i32_150_r0 c1_i32_152_r0 k0_t2
  let c1_i32_182_r0 : BitVec 32 := 1#32
  let v253_r0 : BitVec 32 := Scalar.muli arg22_r0 c1_i32_182_r0
  let v254_r0 : BitVec 32 := Scalar.addi c0_i32_183_r0 v253_r0
  let v470_r0 : Index := Scalar.indexCast v254_r0
  let c112_270_r0 : Index := 112#32
  ![v470_r0.toNat, 112]
def k0_off54 (k0_t2 : Fin k0_t2_loop.trips) : Fin 2 → Nat :=
  let c0_i32_183_r0 : BitVec 32 := 0#32
  let c0_i32_150_r0 : BitVec 32 := 0#32
  let c1_i32_152_r0 : BitVec 32 := 1#32
  let arg22_r0 : BitVec 32 := Scf.iv c0_i32_150_r0 c1_i32_152_r0 k0_t2
  let c1_i32_182_r0 : BitVec 32 := 1#32
  let v253_r0 : BitVec 32 := Scalar.muli arg22_r0 c1_i32_182_r0
  let v254_r0 : BitVec 32 := Scalar.addi c0_i32_183_r0 v253_r0
  let v482_r0 : Index := Scalar.indexCast v254_r0
  let c240_r0 : Index := 240#32
  ![v482_r0.toNat, 240]
def k0_off55 (arg19_r0 : BitVec 32) : Fin 3 → Nat :=
  let c2_i32_182_r0 : BitVec 32 := 2#32
  let v253_r0 : BitVec 32 := Scalar.remui arg19_r0 c2_i32_182_r0
  let c0_i32_184_r0 : BitVec 32 := 0#32
  let c0_i32_185_r0 : BitVec 32 := 0#32
  ![v253_r0.toNat, 0, 0]
def k0_cond11 (i : grid0.Coords) (k0_t1 : Fin k0_t1_loop.trips) (arg21_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v90_r0 : BitVec 32 := Scalar.addi arg21_r0 v4
  let true_87_r0 : BitVec 1 := 1#1
  let c1_i32_86_r0 : BitVec 32 := 1#32
  let v96_r0 : BitVec 32 := Scalar.addi arg21_r0 c1_i32_86_r0
  let v97_r0 : BitVec 32 := Scalar.select true_87_r0 v96_r0 arg21_r0
  let c128_i32_88_r0 : BitVec 32 := 128#32
  let v98_r0 : BitVec 1 := Scalar.cmpi .eq v97_r0 c128_i32_88_r0
  let c0_i32_89_r0 : BitVec 32 := 0#32
  let v99_r0 : BitVec 32 := Scalar.select v98_r0 c0_i32_89_r0 v97_r0
  let v100_r0 : BitVec 32 := Scalar.addi v99_r0 v4
  let v204_r0 : BitVec 1 := Scalar.cmpi .ne v90_r0 v100_r0
  let c0_i32_52_r0 : BitVec 32 := 0#32
  let c1_i32_54_r0 : BitVec 32 := 1#32
  let arg12_r0 : BitVec 32 := Scf.iv c0_i32_52_r0 c1_i32_54_r0 k0_t1
  let c127_i32_81_r0 : BitVec 32 := 127#32
  let v89_r0 : BitVec 1 := Scalar.cmpi .eq arg12_r0 c127_i32_81_r0
  let v205_r0 : BitVec 1 := Scalar.ori v204_r0 v89_r0
  let v206_r0 : BitVec 32 := Scalar.extui v205_r0
  let c0_i32_159_r0 : BitVec 32 := 0#32
  let v207_r0 : BitVec 1 := Scalar.cmpi .ne v206_r0 c0_i32_159_r0
  v207_r0

def k0_off56 (i : grid0.Coords) (arg21_r0 : BitVec 32) : Fin 2 → Nat :=
  let c64_i32_183_r0 : BitVec 32 := 64#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v90_r0 : BitVec 32 := Scalar.addi arg21_r0 v4
  let v254_r0 : BitVec 32 := Scalar.muli c64_i32_183_r0 v90_r0
  let c0_i32_186_r0 : BitVec 32 := 0#32
  ![v254_r0.toNat, 0]
def k0_off57 (arg19_r0 : BitVec 32) : Fin 1 → Nat :=
  let c2_i32_182_r0 : BitVec 32 := 2#32
  let v253_r0 : BitVec 32 := Scalar.remui arg19_r0 c2_i32_182_r0
  ![v253_r0.toNat]
def k0_off58 (arg20_r0 : BitVec 32) : Fin 3 → Nat :=
  let c2_i32_182_r0 : BitVec 32 := 2#32
  let v253_r0 : BitVec 32 := Scalar.remui arg20_r0 c2_i32_182_r0
  let c0_i32_184_r0 : BitVec 32 := 0#32
  let c0_i32_185_r0 : BitVec 32 := 0#32
  ![v253_r0.toNat, 0, 0]
def k0_cond15 (i : grid0.Coords) (k0_t1 : Fin k0_t1_loop.trips) (arg21_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v90_r0 : BitVec 32 := Scalar.addi arg21_r0 v4
  let true_83_r0 : BitVec 1 := 1#1
  let c1_i32_82_r0 : BitVec 32 := 1#32
  let v91_r0 : BitVec 32 := Scalar.subi arg21_r0 c1_i32_82_r0
  let v92_r0 : BitVec 32 := Scalar.select true_83_r0 v91_r0 arg21_r0
  let c_m1_i32_84_r0 : BitVec 32 := 4294967295#32
  let v93_r0 : BitVec 1 := Scalar.cmpi .eq v92_r0 c_m1_i32_84_r0
  let c127_i32_85_r0 : BitVec 32 := 127#32
  let v94_r0 : BitVec 32 := Scalar.select v93_r0 c127_i32_85_r0 v92_r0
  let v95_r0 : BitVec 32 := Scalar.addi v94_r0 v4
  let v229_r0 : BitVec 1 := Scalar.cmpi .ne v90_r0 v95_r0
  let c0_i32_52_r0 : BitVec 32 := 0#32
  let c1_i32_54_r0 : BitVec 32 := 1#32
  let arg12_r0 : BitVec 32 := Scf.iv c0_i32_52_r0 c1_i32_54_r0 k0_t1
  let c0_i32_80_r0 : BitVec 32 := 0#32
  let v88_r0 : BitVec 1 := Scalar.cmpi .eq arg12_r0 c0_i32_80_r0
  let true_171_r0 : BitVec 1 := 1#1
  let v230_r0 : BitVec 1 := Scalar.xori v88_r0 true_171_r0
  let v231_r0 : BitVec 1 := Scalar.andi v229_r0 v230_r0
  let v232_r0 : BitVec 32 := Scalar.extui v231_r0
  let c0_i32_172_r0 : BitVec 32 := 0#32
  let v233_r0 : BitVec 1 := Scalar.cmpi .ne v232_r0 c0_i32_172_r0
  v233_r0

def k0_off59 (i : grid0.Coords) (arg21_r0 : BitVec 32) : Fin 2 → Nat :=
  let c64_i32_183_r0 : BitVec 32 := 64#32
  let true_83_r0 : BitVec 1 := 1#1
  let c1_i32_82_r0 : BitVec 32 := 1#32
  let v91_r0 : BitVec 32 := Scalar.subi arg21_r0 c1_i32_82_r0
  let v92_r0 : BitVec 32 := Scalar.select true_83_r0 v91_r0 arg21_r0
  let c_m1_i32_84_r0 : BitVec 32 := 4294967295#32
  let v93_r0 : BitVec 1 := Scalar.cmpi .eq v92_r0 c_m1_i32_84_r0
  let c127_i32_85_r0 : BitVec 32 := 127#32
  let v94_r0 : BitVec 32 := Scalar.select v93_r0 c127_i32_85_r0 v92_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v95_r0 : BitVec 32 := Scalar.addi v94_r0 v4
  let v254_r0 : BitVec 32 := Scalar.muli c64_i32_183_r0 v95_r0
  let c0_i32_186_r0 : BitVec 32 := 0#32
  ![v254_r0.toNat, 0]
def k0_off60 (arg20_r0 : BitVec 32) : Fin 1 → Nat :=
  let c2_i32_182_r0 : BitVec 32 := 2#32
  let v253_r0 : BitVec 32 := Scalar.remui arg20_r0 c2_i32_182_r0
  ![v253_r0.toNat]

def k0_chk1 (i : grid0.Coords) (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) : Prop :=
  (∀ (k0_h1 : k0_cond1 i k0_t1 arg21_r0 = 1#1), ∀ a, (k0_off6 arg13_r0) a + S1x1x64.size a ≤ S2x1x64.size a) ∧
  (∀ (k0_h1 : k0_cond1 i k0_t1 arg21_r0 = 1#1), ∀ a, (k0_off7 i arg21_r0) a + S1x64.size a ≤ S4096x64.size a) ∧
  (∀ (k0_h1 : k0_cond1 i k0_t1 arg21_r0 = 1#1), ∀ a, (k0_off8 arg13_r0) a + S1.size a ≤ S2.size a) ∧
  (∀ (k0_h2 : k0_cond2 i k0_t1 arg21_r0 = 1#1), ∀ a, (k0_off9 arg15_r0) a + S1x1x64.size a ≤ S2x1x64.size a) ∧
  (∀ (k0_h2 : k0_cond2 i k0_t1 arg21_r0 = 1#1), ∀ a, (k0_off10 i arg21_r0) a + S1x64.size a ≤ S4096x64.size a) ∧
  (∀ (k0_h2 : k0_cond2 i k0_t1 arg21_r0 = 1#1), ∀ a, (k0_off11 arg15_r0) a + S1.size a ≤ S2.size a) ∧
  (∀ (k0_h3 : k0_cond3 i k0_t1 arg21_r0 = 1#1), ∀ a, (k0_off12 arg17_r0) a + S1x64x256.size a ≤ S2x64x256.size a) ∧
  (∀ (k0_h3 : k0_cond3 i k0_t1 arg21_r0 = 1#1), ∀ a, (k0_off13 i arg21_r0) a + S64x256.size a ≤ S262144x256.size a) ∧
  (∀ (k0_h3 : k0_cond3 i k0_t1 arg21_r0 = 1#1), ∀ a, (k0_off14 arg17_r0) a + S1.size a ≤ S2.size a) ∧
  (∀ (k0_h4 : k0_cond4 i k0_t1 arg21_r0 = 1#1), ∀ a, (k0_off15 arg14_r0) a + S1x1x64.size a ≤ S2x1x64.size a) ∧
  (∀ (k0_h4 : k0_cond4 i k0_t1 arg21_r0 = 1#1), ∀ a, (k0_off16 i arg21_r0) a + S1x64.size a ≤ S4096x64.size a) ∧
  (∀ (k0_h4 : k0_cond4 i k0_t1 arg21_r0 = 1#1), ∀ a, (k0_off17 arg14_r0) a + S1.size a ≤ S2.size a) ∧
  (∀ (k0_h5 : k0_cond5 i k0_t1 arg21_r0 = 1#1), ∀ a, (k0_off18 arg16_r0) a + S1x1x64.size a ≤ S2x1x64.size a) ∧
  (∀ (k0_h5 : k0_cond5 i k0_t1 arg21_r0 = 1#1), ∀ a, (k0_off19 i arg21_r0) a + S1x64.size a ≤ S4096x64.size a) ∧
  (∀ (k0_h5 : k0_cond5 i k0_t1 arg21_r0 = 1#1), ∀ a, (k0_off20 arg16_r0) a + S1.size a ≤ S2.size a) ∧
  (∀ (k0_h6 : k0_cond6 i k0_t1 arg21_r0 = 1#1), ∀ a, (k0_off21 arg18_r0) a + S1x64x256.size a ≤ S2x64x256.size a) ∧
  (∀ (k0_h6 : k0_cond6 i k0_t1 arg21_r0 = 1#1), ∀ a, (k0_off22 i arg21_r0) a + S64x256.size a ≤ S262144x256.size a) ∧
  (∀ (k0_h6 : k0_cond6 i k0_t1 arg21_r0 = 1#1), ∀ a, (k0_off23 arg18_r0) a + S1.size a ≤ S2.size a) ∧
  (∀ (k0_h11 : k0_cond11 i k0_t1 arg21_r0 = 1#1), ∀ a, (k0_off55 arg19_r0) a + S1x64x256.size a ≤ S2x64x256.size a) ∧
  (∀ (k0_h11 : k0_cond11 i k0_t1 arg21_r0 = 1#1), ∀ a, (k0_off56 i arg21_r0) a + S64x256.size a ≤ S262144x256.size a) ∧
  (∀ (k0_h11 : k0_cond11 i k0_t1 arg21_r0 = 1#1), ∀ a, (k0_off57 arg19_r0) a + S1.size a ≤ S2.size a) ∧
  (∀ (k0_h15 : k0_cond15 i k0_t1 arg21_r0 = 1#1), ∀ a, (k0_off58 arg20_r0) a + S1x64x256.size a ≤ S2x64x256.size a) ∧
  (∀ (k0_h15 : k0_cond15 i k0_t1 arg21_r0 = 1#1), ∀ a, (k0_off59 i arg21_r0) a + S64x256.size a ≤ S262144x256.size a) ∧
  (∀ (k0_h15 : k0_cond15 i k0_t1 arg21_r0 = 1#1), ∀ a, (k0_off60 arg20_r0) a + S1.size a ≤ S2.size a)
theorem k0_off6_inb : ∀ (i : grid0.Coords) (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 i k0_t1 arg13_r0 arg14_r0 arg15_r0 arg16_r0 arg17_r0 arg18_r0 arg19_r0 arg20_r0 arg21_r0), ∀ (k0_h1 : k0_cond1 i k0_t1 arg21_r0 = 1#1), ∀ a, (k0_off6 arg13_r0) a + S1x1x64.size a ≤ S2x1x64.size a := fun i k0_t1 arg13_r0 arg14_r0 arg15_r0 arg16_r0 arg17_r0 arg18_r0 arg19_r0 arg20_r0 arg21_r0 k0_hw1 k0_h1 => k0_hw1.1 k0_h1
theorem k0_off7_inb : ∀ (i : grid0.Coords) (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 i k0_t1 arg13_r0 arg14_r0 arg15_r0 arg16_r0 arg17_r0 arg18_r0 arg19_r0 arg20_r0 arg21_r0), ∀ (k0_h1 : k0_cond1 i k0_t1 arg21_r0 = 1#1), ∀ a, (k0_off7 i arg21_r0) a + S1x64.size a ≤ S4096x64.size a := fun i k0_t1 arg13_r0 arg14_r0 arg15_r0 arg16_r0 arg17_r0 arg18_r0 arg19_r0 arg20_r0 arg21_r0 k0_hw1 k0_h1 => k0_hw1.2.1 k0_h1
theorem k0_off8_inb : ∀ (i : grid0.Coords) (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 i k0_t1 arg13_r0 arg14_r0 arg15_r0 arg16_r0 arg17_r0 arg18_r0 arg19_r0 arg20_r0 arg21_r0), ∀ (k0_h1 : k0_cond1 i k0_t1 arg21_r0 = 1#1), ∀ a, (k0_off8 arg13_r0) a + S1.size a ≤ S2.size a := fun i k0_t1 arg13_r0 arg14_r0 arg15_r0 arg16_r0 arg17_r0 arg18_r0 arg19_r0 arg20_r0 arg21_r0 k0_hw1 k0_h1 => k0_hw1.2.2.1 k0_h1
theorem k0_off9_inb : ∀ (i : grid0.Coords) (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 i k0_t1 arg13_r0 arg14_r0 arg15_r0 arg16_r0 arg17_r0 arg18_r0 arg19_r0 arg20_r0 arg21_r0), ∀ (k0_h2 : k0_cond2 i k0_t1 arg21_r0 = 1#1), ∀ a, (k0_off9 arg15_r0) a + S1x1x64.size a ≤ S2x1x64.size a := fun i k0_t1 arg13_r0 arg14_r0 arg15_r0 arg16_r0 arg17_r0 arg18_r0 arg19_r0 arg20_r0 arg21_r0 k0_hw1 k0_h2 => k0_hw1.2.2.2.1 k0_h2
theorem k0_off10_inb : ∀ (i : grid0.Coords) (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 i k0_t1 arg13_r0 arg14_r0 arg15_r0 arg16_r0 arg17_r0 arg18_r0 arg19_r0 arg20_r0 arg21_r0), ∀ (k0_h2 : k0_cond2 i k0_t1 arg21_r0 = 1#1), ∀ a, (k0_off10 i arg21_r0) a + S1x64.size a ≤ S4096x64.size a := fun i k0_t1 arg13_r0 arg14_r0 arg15_r0 arg16_r0 arg17_r0 arg18_r0 arg19_r0 arg20_r0 arg21_r0 k0_hw1 k0_h2 => k0_hw1.2.2.2.2.1 k0_h2
theorem k0_off11_inb : ∀ (i : grid0.Coords) (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 i k0_t1 arg13_r0 arg14_r0 arg15_r0 arg16_r0 arg17_r0 arg18_r0 arg19_r0 arg20_r0 arg21_r0), ∀ (k0_h2 : k0_cond2 i k0_t1 arg21_r0 = 1#1), ∀ a, (k0_off11 arg15_r0) a + S1.size a ≤ S2.size a := fun i k0_t1 arg13_r0 arg14_r0 arg15_r0 arg16_r0 arg17_r0 arg18_r0 arg19_r0 arg20_r0 arg21_r0 k0_hw1 k0_h2 => k0_hw1.2.2.2.2.2.1 k0_h2
theorem k0_off12_inb : ∀ (i : grid0.Coords) (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 i k0_t1 arg13_r0 arg14_r0 arg15_r0 arg16_r0 arg17_r0 arg18_r0 arg19_r0 arg20_r0 arg21_r0), ∀ (k0_h3 : k0_cond3 i k0_t1 arg21_r0 = 1#1), ∀ a, (k0_off12 arg17_r0) a + S1x64x256.size a ≤ S2x64x256.size a := fun i k0_t1 arg13_r0 arg14_r0 arg15_r0 arg16_r0 arg17_r0 arg18_r0 arg19_r0 arg20_r0 arg21_r0 k0_hw1 k0_h3 => k0_hw1.2.2.2.2.2.2.1 k0_h3
theorem k0_off13_inb : ∀ (i : grid0.Coords) (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 i k0_t1 arg13_r0 arg14_r0 arg15_r0 arg16_r0 arg17_r0 arg18_r0 arg19_r0 arg20_r0 arg21_r0), ∀ (k0_h3 : k0_cond3 i k0_t1 arg21_r0 = 1#1), ∀ a, (k0_off13 i arg21_r0) a + S64x256.size a ≤ S262144x256.size a := fun i k0_t1 arg13_r0 arg14_r0 arg15_r0 arg16_r0 arg17_r0 arg18_r0 arg19_r0 arg20_r0 arg21_r0 k0_hw1 k0_h3 => k0_hw1.2.2.2.2.2.2.2.1 k0_h3
theorem k0_off14_inb : ∀ (i : grid0.Coords) (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 i k0_t1 arg13_r0 arg14_r0 arg15_r0 arg16_r0 arg17_r0 arg18_r0 arg19_r0 arg20_r0 arg21_r0), ∀ (k0_h3 : k0_cond3 i k0_t1 arg21_r0 = 1#1), ∀ a, (k0_off14 arg17_r0) a + S1.size a ≤ S2.size a := fun i k0_t1 arg13_r0 arg14_r0 arg15_r0 arg16_r0 arg17_r0 arg18_r0 arg19_r0 arg20_r0 arg21_r0 k0_hw1 k0_h3 => k0_hw1.2.2.2.2.2.2.2.2.1 k0_h3
theorem k0_off15_inb : ∀ (i : grid0.Coords) (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 i k0_t1 arg13_r0 arg14_r0 arg15_r0 arg16_r0 arg17_r0 arg18_r0 arg19_r0 arg20_r0 arg21_r0), ∀ (k0_h4 : k0_cond4 i k0_t1 arg21_r0 = 1#1), ∀ a, (k0_off15 arg14_r0) a + S1x1x64.size a ≤ S2x1x64.size a := fun i k0_t1 arg13_r0 arg14_r0 arg15_r0 arg16_r0 arg17_r0 arg18_r0 arg19_r0 arg20_r0 arg21_r0 k0_hw1 k0_h4 => k0_hw1.2.2.2.2.2.2.2.2.2.1 k0_h4
theorem k0_off16_inb : ∀ (i : grid0.Coords) (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 i k0_t1 arg13_r0 arg14_r0 arg15_r0 arg16_r0 arg17_r0 arg18_r0 arg19_r0 arg20_r0 arg21_r0), ∀ (k0_h4 : k0_cond4 i k0_t1 arg21_r0 = 1#1), ∀ a, (k0_off16 i arg21_r0) a + S1x64.size a ≤ S4096x64.size a := fun i k0_t1 arg13_r0 arg14_r0 arg15_r0 arg16_r0 arg17_r0 arg18_r0 arg19_r0 arg20_r0 arg21_r0 k0_hw1 k0_h4 => k0_hw1.2.2.2.2.2.2.2.2.2.2.1 k0_h4
theorem k0_off17_inb : ∀ (i : grid0.Coords) (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 i k0_t1 arg13_r0 arg14_r0 arg15_r0 arg16_r0 arg17_r0 arg18_r0 arg19_r0 arg20_r0 arg21_r0), ∀ (k0_h4 : k0_cond4 i k0_t1 arg21_r0 = 1#1), ∀ a, (k0_off17 arg14_r0) a + S1.size a ≤ S2.size a := fun i k0_t1 arg13_r0 arg14_r0 arg15_r0 arg16_r0 arg17_r0 arg18_r0 arg19_r0 arg20_r0 arg21_r0 k0_hw1 k0_h4 => k0_hw1.2.2.2.2.2.2.2.2.2.2.2.1 k0_h4
theorem k0_off18_inb : ∀ (i : grid0.Coords) (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 i k0_t1 arg13_r0 arg14_r0 arg15_r0 arg16_r0 arg17_r0 arg18_r0 arg19_r0 arg20_r0 arg21_r0), ∀ (k0_h5 : k0_cond5 i k0_t1 arg21_r0 = 1#1), ∀ a, (k0_off18 arg16_r0) a + S1x1x64.size a ≤ S2x1x64.size a := fun i k0_t1 arg13_r0 arg14_r0 arg15_r0 arg16_r0 arg17_r0 arg18_r0 arg19_r0 arg20_r0 arg21_r0 k0_hw1 k0_h5 => k0_hw1.2.2.2.2.2.2.2.2.2.2.2.2.1 k0_h5
theorem k0_off19_inb : ∀ (i : grid0.Coords) (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 i k0_t1 arg13_r0 arg14_r0 arg15_r0 arg16_r0 arg17_r0 arg18_r0 arg19_r0 arg20_r0 arg21_r0), ∀ (k0_h5 : k0_cond5 i k0_t1 arg21_r0 = 1#1), ∀ a, (k0_off19 i arg21_r0) a + S1x64.size a ≤ S4096x64.size a := fun i k0_t1 arg13_r0 arg14_r0 arg15_r0 arg16_r0 arg17_r0 arg18_r0 arg19_r0 arg20_r0 arg21_r0 k0_hw1 k0_h5 => k0_hw1.2.2.2.2.2.2.2.2.2.2.2.2.2.1 k0_h5
theorem k0_off20_inb : ∀ (i : grid0.Coords) (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 i k0_t1 arg13_r0 arg14_r0 arg15_r0 arg16_r0 arg17_r0 arg18_r0 arg19_r0 arg20_r0 arg21_r0), ∀ (k0_h5 : k0_cond5 i k0_t1 arg21_r0 = 1#1), ∀ a, (k0_off20 arg16_r0) a + S1.size a ≤ S2.size a := fun i k0_t1 arg13_r0 arg14_r0 arg15_r0 arg16_r0 arg17_r0 arg18_r0 arg19_r0 arg20_r0 arg21_r0 k0_hw1 k0_h5 => k0_hw1.2.2.2.2.2.2.2.2.2.2.2.2.2.2.1 k0_h5
theorem k0_off21_inb : ∀ (i : grid0.Coords) (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 i k0_t1 arg13_r0 arg14_r0 arg15_r0 arg16_r0 arg17_r0 arg18_r0 arg19_r0 arg20_r0 arg21_r0), ∀ (k0_h6 : k0_cond6 i k0_t1 arg21_r0 = 1#1), ∀ a, (k0_off21 arg18_r0) a + S1x64x256.size a ≤ S2x64x256.size a := fun i k0_t1 arg13_r0 arg14_r0 arg15_r0 arg16_r0 arg17_r0 arg18_r0 arg19_r0 arg20_r0 arg21_r0 k0_hw1 k0_h6 => k0_hw1.2.2.2.2.2.2.2.2.2.2.2.2.2.2.2.1 k0_h6
theorem k0_off22_inb : ∀ (i : grid0.Coords) (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 i k0_t1 arg13_r0 arg14_r0 arg15_r0 arg16_r0 arg17_r0 arg18_r0 arg19_r0 arg20_r0 arg21_r0), ∀ (k0_h6 : k0_cond6 i k0_t1 arg21_r0 = 1#1), ∀ a, (k0_off22 i arg21_r0) a + S64x256.size a ≤ S262144x256.size a := fun i k0_t1 arg13_r0 arg14_r0 arg15_r0 arg16_r0 arg17_r0 arg18_r0 arg19_r0 arg20_r0 arg21_r0 k0_hw1 k0_h6 => k0_hw1.2.2.2.2.2.2.2.2.2.2.2.2.2.2.2.2.1 k0_h6
theorem k0_off23_inb : ∀ (i : grid0.Coords) (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 i k0_t1 arg13_r0 arg14_r0 arg15_r0 arg16_r0 arg17_r0 arg18_r0 arg19_r0 arg20_r0 arg21_r0), ∀ (k0_h6 : k0_cond6 i k0_t1 arg21_r0 = 1#1), ∀ a, (k0_off23 arg18_r0) a + S1.size a ≤ S2.size a := fun i k0_t1 arg13_r0 arg14_r0 arg15_r0 arg16_r0 arg17_r0 arg18_r0 arg19_r0 arg20_r0 arg21_r0 k0_hw1 k0_h6 => k0_hw1.2.2.2.2.2.2.2.2.2.2.2.2.2.2.2.2.2.1 k0_h6
theorem k0_off55_inb : ∀ (i : grid0.Coords) (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 i k0_t1 arg13_r0 arg14_r0 arg15_r0 arg16_r0 arg17_r0 arg18_r0 arg19_r0 arg20_r0 arg21_r0), ∀ (k0_h11 : k0_cond11 i k0_t1 arg21_r0 = 1#1), ∀ a, (k0_off55 arg19_r0) a + S1x64x256.size a ≤ S2x64x256.size a := fun i k0_t1 arg13_r0 arg14_r0 arg15_r0 arg16_r0 arg17_r0 arg18_r0 arg19_r0 arg20_r0 arg21_r0 k0_hw1 k0_h11 => k0_hw1.2.2.2.2.2.2.2.2.2.2.2.2.2.2.2.2.2.2.1 k0_h11
theorem k0_off56_inb : ∀ (i : grid0.Coords) (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 i k0_t1 arg13_r0 arg14_r0 arg15_r0 arg16_r0 arg17_r0 arg18_r0 arg19_r0 arg20_r0 arg21_r0), ∀ (k0_h11 : k0_cond11 i k0_t1 arg21_r0 = 1#1), ∀ a, (k0_off56 i arg21_r0) a + S64x256.size a ≤ S262144x256.size a := fun i k0_t1 arg13_r0 arg14_r0 arg15_r0 arg16_r0 arg17_r0 arg18_r0 arg19_r0 arg20_r0 arg21_r0 k0_hw1 k0_h11 => k0_hw1.2.2.2.2.2.2.2.2.2.2.2.2.2.2.2.2.2.2.2.1 k0_h11
theorem k0_off57_inb : ∀ (i : grid0.Coords) (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 i k0_t1 arg13_r0 arg14_r0 arg15_r0 arg16_r0 arg17_r0 arg18_r0 arg19_r0 arg20_r0 arg21_r0), ∀ (k0_h11 : k0_cond11 i k0_t1 arg21_r0 = 1#1), ∀ a, (k0_off57 arg19_r0) a + S1.size a ≤ S2.size a := fun i k0_t1 arg13_r0 arg14_r0 arg15_r0 arg16_r0 arg17_r0 arg18_r0 arg19_r0 arg20_r0 arg21_r0 k0_hw1 k0_h11 => k0_hw1.2.2.2.2.2.2.2.2.2.2.2.2.2.2.2.2.2.2.2.2.1 k0_h11
theorem k0_off58_inb : ∀ (i : grid0.Coords) (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 i k0_t1 arg13_r0 arg14_r0 arg15_r0 arg16_r0 arg17_r0 arg18_r0 arg19_r0 arg20_r0 arg21_r0), ∀ (k0_h15 : k0_cond15 i k0_t1 arg21_r0 = 1#1), ∀ a, (k0_off58 arg20_r0) a + S1x64x256.size a ≤ S2x64x256.size a := fun i k0_t1 arg13_r0 arg14_r0 arg15_r0 arg16_r0 arg17_r0 arg18_r0 arg19_r0 arg20_r0 arg21_r0 k0_hw1 k0_h15 => k0_hw1.2.2.2.2.2.2.2.2.2.2.2.2.2.2.2.2.2.2.2.2.2.1 k0_h15
theorem k0_off59_inb : ∀ (i : grid0.Coords) (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 i k0_t1 arg13_r0 arg14_r0 arg15_r0 arg16_r0 arg17_r0 arg18_r0 arg19_r0 arg20_r0 arg21_r0), ∀ (k0_h15 : k0_cond15 i k0_t1 arg21_r0 = 1#1), ∀ a, (k0_off59 i arg21_r0) a + S64x256.size a ≤ S262144x256.size a := fun i k0_t1 arg13_r0 arg14_r0 arg15_r0 arg16_r0 arg17_r0 arg18_r0 arg19_r0 arg20_r0 arg21_r0 k0_hw1 k0_h15 => k0_hw1.2.2.2.2.2.2.2.2.2.2.2.2.2.2.2.2.2.2.2.2.2.2.1 k0_h15
theorem k0_off60_inb : ∀ (i : grid0.Coords) (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 i k0_t1 arg13_r0 arg14_r0 arg15_r0 arg16_r0 arg17_r0 arg18_r0 arg19_r0 arg20_r0 arg21_r0), ∀ (k0_h15 : k0_cond15 i k0_t1 arg21_r0 = 1#1), ∀ a, (k0_off60 arg20_r0) a + S1.size a ≤ S2.size a := fun i k0_t1 arg13_r0 arg14_r0 arg15_r0 arg16_r0 arg17_r0 arg18_r0 arg19_r0 arg20_r0 arg21_r0 k0_hw1 k0_h15 => k0_hw1.2.2.2.2.2.2.2.2.2.2.2.2.2.2.2.2.2.2.2.2.2.2.2 k0_h15

def k0_off61 (v57_7_r0 : BitVec 32) : Fin 3 → Nat :=
  let c2_i32_72_r0 : BitVec 32 := 2#32
  let v78_r0 : BitVec 32 := Scalar.remui v57_7_r0 c2_i32_72_r0
  let c0_i32_74_r0 : BitVec 32 := 0#32
  let c0_i32_75_r0 : BitVec 32 := 0#32
  ![v78_r0.toNat, 0, 0]

def k0_off62 (i : grid0.Coords) (v57_8_r0 : BitVec 32) : Fin 2 → Nat :=
  let c64_i32_73_r0 : BitVec 32 := 64#32
  let true_57_r0 : BitVec 1 := 1#1
  let c1_i32_56_r0 : BitVec 32 := 1#32
  let v58_r0 : BitVec 32 := Scalar.subi v57_8_r0 c1_i32_56_r0
  let v59_r0 : BitVec 32 := Scalar.select true_57_r0 v58_r0 v57_8_r0
  let c_m1_i32_58_r0 : BitVec 32 := 4294967295#32
  let v60_r0 : BitVec 1 := Scalar.cmpi .eq v59_r0 c_m1_i32_58_r0
  let c127_i32_59_r0 : BitVec 32 := 127#32
  let v61_r0 : BitVec 32 := Scalar.select v60_r0 c127_i32_59_r0 v59_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v62_r0 : BitVec 32 := Scalar.addi v61_r0 v4
  let v79_r0 : BitVec 32 := Scalar.muli c64_i32_73_r0 v62_r0
  let c0_i32_76_r0 : BitVec 32 := 0#32
  ![v79_r0.toNat, 0]

def k0_chk7 (i : grid0.Coords) (v57_8_r0 : BitVec 32) : Prop :=
  (∀ a, (k0_off62 i v57_8_r0) a + S64x256.size a ≤ S262144x256.size a)
theorem k0_off62_inb : ∀ (i : grid0.Coords) (v57_8_r0 : BitVec 32) (k0_hw7 : k0_chk7 i v57_8_r0), ∀ a, (k0_off62 i v57_8_r0) a + S64x256.size a ≤ S262144x256.size a := fun i v57_8_r0 k0_hw7 => k0_hw7

def k0_off63 (v57_7_r0 : BitVec 32) : Fin 1 → Nat :=
  let c2_i32_72_r0 : BitVec 32 := 2#32
  let v78_r0 : BitVec 32 := Scalar.remui v57_7_r0 c2_i32_72_r0
  ![v78_r0.toNat]
def k0_off64 (v57_7_r0 : BitVec 32) : Fin 3 → Nat :=
  let c2_i32_72_r0 : BitVec 32 := 2#32
  let v78_r0 : BitVec 32 := Scalar.remui v57_7_r0 c2_i32_72_r0
  let c0_i32_78_r0 : BitVec 32 := 0#32
  let c0_i32_79_r0 : BitVec 32 := 0#32
  ![v78_r0.toNat, 0, 0]

def k0_chk6 (v57_7_r0 : BitVec 32) : Prop :=
  (∀ a, (k0_off61 v57_7_r0) a + S1x64x256.size a ≤ S2x64x256.size a) ∧
  (∀ a, (k0_off63 v57_7_r0) a + S1.size a ≤ S2.size a) ∧
  (∀ a, (k0_off64 v57_7_r0) a + S1x64x256.size a ≤ S2x64x256.size a)
theorem k0_off61_inb : ∀ (v57_7_r0 : BitVec 32) (k0_hw6 : k0_chk6 v57_7_r0), ∀ a, (k0_off61 v57_7_r0) a + S1x64x256.size a ≤ S2x64x256.size a := fun v57_7_r0 k0_hw6 => k0_hw6.1
theorem k0_off63_inb : ∀ (v57_7_r0 : BitVec 32) (k0_hw6 : k0_chk6 v57_7_r0), ∀ a, (k0_off63 v57_7_r0) a + S1.size a ≤ S2.size a := fun v57_7_r0 k0_hw6 => k0_hw6.2.1
theorem k0_off64_inb : ∀ (v57_7_r0 : BitVec 32) (k0_hw6 : k0_chk6 v57_7_r0), ∀ a, (k0_off64 v57_7_r0) a + S1x64x256.size a ≤ S2x64x256.size a := fun v57_7_r0 k0_hw6 => k0_hw6.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S262144x256 : Shape := ⟨2, ![262144, 256]⟩
abbrev S262144x2 : Shape := ⟨2, ![262144, 2]⟩
abbrev S50x128 : Shape := ⟨2, ![50, 128]⟩
abbrev S262144x1 : Shape := ⟨2, ![262144, 1]⟩
abbrev S262144 : Shape := ⟨1, ![262144]⟩
abbrev S_ : Shape := ⟨0, ![]⟩
abbrev S1 : Shape := ⟨1, ![1]⟩
abbrev S1x1 : Shape := ⟨2, ![1, 1]⟩
abbrev S262144x128 : Shape := ⟨2, ![262144, 128]⟩

abbrev nBuf : Space → Nat
  | .hbm => 56
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144x2, .i32⟩
  | .hbm, ⟨2, _⟩ => ⟨S50x128, .f32⟩
  | .hbm, ⟨3, _⟩ => ⟨S50x128, .f32⟩
  | .hbm, ⟨4, _⟩ => ⟨S262144x1, .i32⟩
  | .hbm, ⟨5, _⟩ => ⟨S262144, .i32⟩
  | .hbm, ⟨6, _⟩ => ⟨S_, .i32⟩
  | .hbm, ⟨7, _⟩ => ⟨S262144, .i32⟩
  | .hbm, ⟨8, _⟩ => ⟨S262144, .i1⟩
  | .hbm, ⟨9, _⟩ => ⟨S_, .i32⟩
  | .hbm, ⟨10, _⟩ => ⟨S262144, .i32⟩
  | .hbm, ⟨11, _⟩ => ⟨S262144, .i32⟩
  | .hbm, ⟨12, _⟩ => ⟨S262144, .i32⟩
  | .hbm, ⟨13, _⟩ => ⟨S262144x1, .i32⟩
  | .hbm, ⟨14, _⟩ => ⟨S1, .i32⟩
  | .hbm, ⟨15, _⟩ => ⟨S_, .i32⟩
  | .hbm, ⟨16, _⟩ => ⟨S262144x1, .i32⟩
  | .hbm, ⟨17, _⟩ => ⟨S262144x1, .i1⟩
  | .hbm, ⟨18, _⟩ => ⟨S1x1, .i32⟩
  | .hbm, ⟨19, _⟩ => ⟨S262144x1, .i32⟩
  | .hbm, ⟨20, _⟩ => ⟨S262144x1, .i1⟩
  | .hbm, ⟨21, _⟩ => ⟨S262144x1, .i1⟩
  | .hbm, ⟨22, _⟩ => ⟨S_, .i1⟩
  | .hbm, ⟨23, _⟩ => ⟨S262144, .i1⟩
  | .hbm, ⟨24, _⟩ => ⟨S262144x128, .f32⟩
  | .hbm, ⟨25, _⟩ => ⟨S262144x128, .i1⟩
  | .hbm, ⟨26, _⟩ => ⟨S_, .f32⟩
  | .hbm, ⟨27, _⟩ => ⟨S262144x128, .f32⟩
  | .hbm, ⟨28, _⟩ => ⟨S262144x128, .f32⟩
  | .hbm, ⟨29, _⟩ => ⟨S262144x1, .i32⟩
  | .hbm, ⟨30, _⟩ => ⟨S262144, .i32⟩
  | .hbm, ⟨31, _⟩ => ⟨S_, .i32⟩
  | .hbm, ⟨32, _⟩ => ⟨S262144, .i32⟩
  | .hbm, ⟨33, _⟩ => ⟨S262144, .i1⟩
  | .hbm, ⟨34, _⟩ => ⟨S_, .i32⟩
  | .hbm, ⟨35, _⟩ => ⟨S262144, .i32⟩
  | .hbm, ⟨36, _⟩ => ⟨S262144, .i32⟩
  | .hbm, ⟨37, _⟩ => ⟨S262144, .i32⟩
  | .hbm, ⟨38, _⟩ => ⟨S262144x1, .i32⟩
  | .hbm, ⟨39, _⟩ => ⟨S1, .i32⟩
  | .hbm, ⟨40, _⟩ => ⟨S_, .i32⟩
  | .hbm, ⟨41, _⟩ => ⟨S262144x1, .i32⟩
  | .hbm, ⟨42, _⟩ => ⟨S262144x1, .i1⟩
  | .hbm, ⟨43, _⟩ => ⟨S1x1, .i32⟩
  | .hbm, ⟨44, _⟩ => ⟨S262144x1, .i32⟩
  | .hbm, ⟨45, _⟩ => ⟨S262144x1, .i1⟩
  | .hbm, ⟨46, _⟩ => ⟨S262144x1, .i1⟩
  | .hbm, ⟨47, _⟩ => ⟨S_, .i1⟩
  | .hbm, ⟨48, _⟩ => ⟨S262144, .i1⟩
  | .hbm, ⟨49, _⟩ => ⟨S262144x128, .f32⟩
  | .hbm, ⟨50, _⟩ => ⟨S262144x128, .i1⟩
  | .hbm, ⟨51, _⟩ => ⟨S_, .f32⟩
  | .hbm, ⟨52, _⟩ => ⟨S262144x128, .f32⟩
  | .hbm, ⟨53, _⟩ => ⟨S262144x128, .f32⟩
  | .hbm, ⟨54, _⟩ => ⟨S262144x256, .f32⟩
  | .hbm, ⟨55, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩

abbrev nD : Nat := 1
abbrev τ : Topo := Topo.v7x

variable {F : FTy → Type} [FloatOps F]
-- ==== Proof.Words.lean ====
/-
  The words the kernel's counted loop carries, in closed form. Trip `t` of the loop carries six slot counters, the
  chunk number and two output counters; every slot is a counter's remainder by two, and every row offset is the tile's
  first chunk plus the trip. Each equation below is decided over all trips and all tiles.
-/
module

public import proofs.«01_k».proof.Defs
public import proofs.«01_k».proof.Proof.Gen.KernelIdeal

@[expose] public section

namespace Cert.Proof.Words

open Cert.KernelIdeal Cert.KernelIdeal.Gen Idealize.ShloMosaic

/-- The number `n` as a word. -/
abbrev w (n : ℕ) : BitVec 32 := BitVec.ofNat 32 n

/-- The trips of the chunk loop. -/
abbrev T1 : Type := Fin k0_t1_loop.trips

/-- The tile's first chunk: tile `s` of SparseCore `c` takes chunks `128 (s + 16 c)` and the 127 after it. -/
abbrev cb (i : grid0.Coords) : ℕ := 128 * (i 1).val + 2048 * (i 0).val

/-- The slot a counter names. -/
abbrev sl3 (n : ℕ) : Fin 3 → ℕ := ![n % 2, 0, 0]
/-- The semaphore a counter names. -/
abbrev sl1 (n : ℕ) : Fin 1 → ℕ := ![n % 2]

set_option maxRecDepth 65536

/-- The slot the first list's copy fills, -/
theorem off6 : ∀ t : T1, k0_off6 (w (t.val + 1)) = sl3 (t.val + 1) := by decide +kernel
/-- its semaphore; -/
theorem off8 : ∀ t : T1, k0_off8 (w (t.val + 1)) = sl1 (t.val + 1) := by decide +kernel
/-- the slot the second list's copy fills, -/
theorem off9 : ∀ t : T1, k0_off9 (w (t.val + 1)) = sl3 (t.val + 1) := by decide +kernel
/-- its semaphore; -/
theorem off11 : ∀ t : T1, k0_off11 (w (t.val + 1)) = sl1 (t.val + 1) := by decide +kernel
/-- the slot the copy of `x` fills, -/
theorem off12 : ∀ t : T1, k0_off12 (w (t.val + 1)) = sl3 (t.val + 1) := by decide +kernel
/-- its semaphore. -/
theorem off14 : ∀ t : T1, k0_off14 (w (t.val + 1)) = sl1 (t.val + 1) := by decide +kernel
/-- The slot waited for of the first list, -/
theorem off15 : ∀ t : T1, k0_off15 (w t.val) = sl3 t.val := by decide +kernel
/-- its semaphore; -/
theorem off17 : ∀ t : T1, k0_off17 (w t.val) = sl1 t.val := by decide +kernel
/-- of the second list, -/
theorem off18 : ∀ t : T1, k0_off18 (w t.val) = sl3 t.val := by decide +kernel
/-- its semaphore; -/
theorem off20 : ∀ t : T1, k0_off20 (w t.val) = sl1 t.val := by decide +kernel
/-- of `x`, -/
theorem off21 : ∀ t : T1, k0_off21 (w t.val) = sl3 t.val := by decide +kernel
/-- its semaphore. -/
theorem off23 : ∀ t : T1, k0_off23 (w t.val) = sl1 t.val := by decide +kernel
/-- The slot whose indices the first gather reads -/
theorem off24 : ∀ t : T1, k0_off24 (w t.val) = sl3 t.val := by decide +kernel
/-- or the second; -/
theorem off25 : ∀ t : T1, k0_off25 (w t.val) = sl3 t.val := by decide +kernel
/-- the slot of `x` that the sum reads for its left half, -/
theorem off26 : ∀ t : T1, k0_off26 (w t.val) = sl3 t.val := by decide +kernel
/-- the slot of the result that it writes, -/
theorem off29 : ∀ t : T1, k0_off29 (w t.val) = sl3 t.val := by decide +kernel
/-- the slot of `x` that it reads for its right half; -/
theorem off31 : ∀ t : T1, k0_off31 (w t.val) = sl3 t.val := by decide +kernel
/-- the slot sent -/
theorem off55 : ∀ t : T1, k0_off55 (w t.val) = sl3 t.val := by decide +kernel
/-- and its semaphore. -/
theorem off57 : ∀ t : T1, k0_off57 (w t.val) = sl1 t.val := by decide +kernel
/-- The slot of the chunk before: what the trip's wait on the output names. -/
theorem off58 : ∀ t : T1, 0 < t.val → k0_off58 (w (t.val - 1)) = sl3 (t.val + 1) := by decide +kernel
/-- The semaphore that this wait names. -/
theorem off60 : ∀ t : T1, 0 < t.val → k0_off60 (w (t.val - 1)) = sl1 (t.val + 1) := by decide +kernel
/-- The last wait's semaphore -/
theorem off63 : k0_off63 (w 127) = sl1 127 := by decide +kernel
/-- and slot. -/
theorem off64 : k0_off64 (w 127) = sl3 127 := by decide +kernel

/-- The first list's row asked for, -/
theorem off7 : ∀ (i : grid0.Coords) (t : T1), t.val < 127 → k0_off7 i (w t.val) = ![cb i + (t.val + 1), 0] := by decide +kernel
/-- the second list's, -/
theorem off10 : ∀ (i : grid0.Coords) (t : T1), t.val < 127 → k0_off10 i (w t.val) = ![cb i + (t.val + 1), 0] := by decide +kernel
/-- the rows of `x` asked for, -/
theorem off13 : ∀ (i : grid0.Coords) (t : T1), t.val < 127 → k0_off13 i (w t.val) = ![64 * (cb i + (t.val + 1)), 0] := by decide +kernel
/-- and the rows of the result sent. -/
theorem off56 : ∀ (i : grid0.Coords) (t : T1), k0_off56 i (w t.val) = ![64 * (cb i + t.val), 0] := by decide +kernel

/-- The next block of the first list is asked for but on the last trip, -/
theorem cond1 : ∀ (i : grid0.Coords) (t : T1), k0_cond1 i t (w t.val) = 1#1 ↔ t.val < 127 := by decide +kernel
/-- so is the second list's -/
theorem cond2 : ∀ (i : grid0.Coords) (t : T1), k0_cond2 i t (w t.val) = 1#1 ↔ t.val < 127 := by decide +kernel
/-- and that of `x`. -/
theorem cond3 : ∀ (i : grid0.Coords) (t : T1), k0_cond3 i t (w t.val) = 1#1 ↔ t.val < 127 := by decide +kernel
/-- Every trip waits for its block of the first list, -/
theorem cond4 : ∀ (i : grid0.Coords) (t : T1), k0_cond4 i t (w t.val) = 1#1 := by decide +kernel
/-- of the second list -/
theorem cond5 : ∀ (i : grid0.Coords) (t : T1), k0_cond5 i t (w t.val) = 1#1 := by decide +kernel
/-- and of `x`, -/
theorem cond6 : ∀ (i : grid0.Coords) (t : T1), k0_cond6 i t (w t.val) = 1#1 := by decide +kernel
/-- and sends its block of the result; -/
theorem cond11 : ∀ (i : grid0.Coords) (t : T1), k0_cond11 i t (w t.val) = 1#1 := by decide +kernel
/-- every trip but the first waits for the block sent before. -/
theorem cond15 : ∀ (i : grid0.Coords) (t : T1), k0_cond15 i t (w t.val) = 1#1 ↔ 0 < t.val := by decide +kernel

/-- The trip's views lie in their buffers: the first gather's, -/
theorem chk2 : ∀ t : T1, k0_chk2 (w t.val) := by decide +kernel
/-- the second gather's, -/
theorem chk3 : ∀ t : T1, k0_chk3 (w t.val) := by decide +kernel
/-- those of `x` -/
theorem chk4 : ∀ t : T1, k0_chk4 (w t.val) := by decide +kernel
/-- and of the result, -/
theorem chk5 : ∀ t : T1, k0_chk5 (w t.val) := by decide +kernel
/-- the last wait's slot -/
theorem chk6 : k0_chk6 (w 127) := by decide +kernel
/-- and its rows of the result. -/
theorem chk7 : ∀ i : grid0.Coords, k0_chk7 i (w 0) := by decide +kernel
/-- Every access of trip `t` is in bounds at the words the trip carries. -/
theorem chk1 : ∀ (i : grid0.Coords) (t : T1),
    k0_chk1 i t (w (t.val + 1)) (w t.val) (w (t.val + 1)) (w t.val) (w (t.val + 1)) (w t.val) (w t.val) (w (t.val - 1)) (w t.val) := by decide +kernel

end Cert.Proof.Words
-- ==== Proof.Base.lean ====
/-
  The set-up the other modules share: the program as the SparseCore launch sees it, the resource algebra (the
  handshakes' rounds and the transfers' counters), the tile's thread, and the steps of a copy, a wait and a vector
  access stated at a lifted operation, so that a program that is a chain of binds is walked one operation at a time.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Memref
public import Idealize.ShloMosaic.Lib.Tactic
public import proofs.«01_k».proof.Proof.Gen.KernelIdeal
public import proofs.«01_k».proof.Proof.Gen.KernelIdeal.Skeleton
public import proofs.«01_k».proof.Proof.Gen.Pre_in_range
public import proofs.«01_k».proof.Proof.Words

@[expose] public section

noncomputable section

namespace Cert.Proof.Enc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch sees it -/

/-- The labels of the kernel's program. -/
abbrev ΛP : Labels := Pipeline.Sig Λ₀ (Fin 0) fun p => (pcfgs (F := F) p).Adm
/-- The launch's configuration. -/
abbrev K : SparseCore.Cfg τ sig (ΛP (F := F)) 1 := sc (F := F)
/-- What every label names. -/
abbrev D [FloatOps F] : Defs nD τ sig (Elt F) (ΛP (F := F)) := Pipeline.defs pcfgs defs₀
/-- No loop runs on a variant, -/
abbrev 𝒱₀ : Variants := Variants.none
/-- nor does one in the lifted program. -/
abbrev 𝒱 : Variants := 𝒱₀.lift
/-- and none is needed: the loops are counted. -/
abbrev v₀ : 𝒱.V := Sum.inl none

/-- The handshakes' ghost state, -/
abbrev UH : Type := URounds (GSem nD τ sig) ℕ
/-- and beside it the counters'. -/
abbrev UU : Type := UH × Counters

local notation "𝕄" => MT nD τ sig (HIx 1) (Elt F) ℕ UU ℕ

/-- Where the handshakes' state lies in the whole. -/
abbrev EH : Emb UH (MT nD τ sig (HIx 1) (Elt F) ℕ UU ℕ) := embL

/-- The tile's thread. -/
abbrev thr (d : Dev nD) (i : grid0.Coords) : Thread nD τ := V d ((i 0).castLE hcore0) ((i 1).castLE hsub0)

/-- Programs of a tile. -/
abbrev TP (F : FTy → Type) (i : grid0.Coords) (α : Type) : Type 1 :=
  Prog (TpuEff nD τ sig (Elt F) Λ₀ (.scVector ((i 0).castLE hcore0) ((i 1).castLE hsub0))) α

/-- One operation of a tile, as a program. -/
abbrev op1 {F : FTy → Type} {i : grid0.Coords} {α : Type}
    (e : TpuEff nD τ sig (Elt F) Λ₀ (.scVector ((i 0).castLE hcore0) ((i 1).castLE hsub0)) α) : TP F i α := Prog.lift e

/-- Memrefs of a tile. -/
abbrev MR (sp : Space) (s : Shape) (e : EltTy) : Type := Memref sig .scVector sp s e

variable [FloatOps F] (d : Dev nD) (i : grid0.Coords)

/-- The weakest precondition of a tile's program. -/
abbrev twp {α : Type} (p : TP F i α) (Q : α → sProp 𝕄) : sProp 𝕄 :=
  wp frame (wpE (defs₀ (F := F)) 𝒱₀ (thr d i) none) Set.univ p Q

/-- What a tile owes, and a set of waits recorded that holds no more than the task's own. -/
def Ow (O : CellTallies nD τ sig (HIx 1)) (W : Waits sig (HIx 1)) : sProp 𝕄 :=
  iprop(∃ W', ⌜∀ p ∈ W', p ∈ W ∨ p.2 = none⌝ ∗ owes (thr d i) O W')

/-- A copy in flight on a tile's DMA semaphore. -/
abbrev Fl (sm : DmaSem sig) (N : ℕ) (R : sProp 𝕄) : sProp 𝕄 :=
  Transfers.Flight countersEmb (thr d i) (.dma sm) (default : HIx 1) N R

/-- The tile's DMA semaphore at zero. -/
abbrev z0 (sm : DmaSem sig) : sProp 𝕄 := semVal (thr d i, SemLoc.dma sm) 0

/-- The evidence that every wait of the tile is allowed. -/
abbrev Mw (O : CellTallies nD τ sig (HIx 1)) : sProp 𝕄 := Transfers.MayWaits (thr d i) (default : HIx 1) O

variable {d i}

/-- A copy whose source buffer is held whole: on its completion the target reads what the source read. -/
theorem enq {sp sp' : Space} {s : Shape} {e : EltTy} {src src' : MR sp s e} {dst dst' : MR sp' s e} {sm sm' : DmaSem sig}
    {hsrc : src.view.WordExact} {hdst : dst.view.WordExact} {hsem : DmaTarget.Typed (nD := nD) (τ := τ) (p := .scVector ((i 0).castLE hcore0) ((i 1).castLE hsub0)) sp (.dma sm) (.here dst)}
    (hs : src = src') (hd : dst = dst') (hm : sm = sm') (hn : 0 < s.numel)
    {q : PosShare TreeShare} {fs : Buf (Elt F) (src'.view.loc (thr d i))} {X : s.Idx → Elt F e} {Q : PUnit → sProp 𝕄} :
    iprop((src'.view.loc (thr d i) ↦{q} fs) ∗ owns (thr d i) dst' fullShare X ∗ z0 d i sm')
      ⊢ iprop((Fl d i sm' dst'.view.dmaCredit iprop(owns (thr d i) dst' fullShare (src'.view.read (Elt F) fs)
            ∗ (src'.view.loc (thr d i) ↦{q} fs)) -∗ Q ⟨⟩)
          -∗ twp d i (op1 (.enqueueDma src (.here dst) (.dma sm) hsrc hdst hsem)) Q) := by
  subst hs hd hm
  have hmono : ∀ f, iprop((dst.view.loc (thr d i) ↦[dst.view.set]{fullShare} (dst.view.write (Elt F) f (ReadAs.same.apply (src.view.read (Elt F) fs)) Finset.univ))
      ∗ (src.view.loc (thr d i) ↦{q} fs)) ⊢ (iprop(owns (thr d i) dst fullShare (src.view.read (Elt F) fs) ∗ (src.view.loc (thr d i) ↦{q} fs)) : sProp 𝕄) := by
    intro f
    iintro ⟨Hd, Hs⟩
    iframe Hs
    unfold owns
    iexists _
    isplitr
    swap; · iexact Hd
    ipureintro
    exact View.read_write_univ _ _
  unfold owns
  unfold twp op1 Prog.lift
  iintro ⟨Hs, ⟨%fd, -, Hd⟩, Hv⟩ Hk
  iapply (Transfers.wp_dmaFromWhole countersEmb 𝒱₀ (thr d i) none (via := .same) (default : HIx 1) dst.view.dmaCredit rfl
    (View.dmaCredit_pos _ hn) (Finset.Subset.refl _)) $$ [Hs Hd Hv]
  · iframe Hs Hd Hv
  iintro Hfl
  iapply (le_wp_ret (Fr := frame) (wpE := wpE (defs₀ (F := F)) 𝒱₀ (thr d i) none) (E := Set.univ) PUnit.unit Q)
  iapply Hk
  iapply (Transfers.Flight_mono countersEmb (thr d i) (hmono fd))
  iexact Hfl

/-- A wait for a copy in flight: what the copy delivers, and its semaphore back at zero. -/
theorem wait {sp sp' : Space} {s s' : Shape} {e e' : EltTy} {srcw : MR sp s e} {dstw : MR sp' s' e'} {sm sm' : DmaSem sig} {hsrc : srcw.view.WordExact}
    {hdst : dstw.view.WordExact} {N : ℕ} (hm : sm = sm') (hN : dstw.view.dmaCredit = N)
    {O : CellTallies nD τ sig (HIx 1)} {W : Waits sig (HIx 1)} {R : sProp 𝕄} {Q : PUnit → sProp 𝕄} :
    iprop(Mw d i O ∗ Fl d i sm' N R ∗ Ow d i O W)
      ⊢ iprop((iprop(R ∗ z0 d i sm' ∗ Ow d i O W) -∗ Q ⟨⟩)
          -∗ twp d i (op1 (.waitDma2 sm srcw dstw hsrc hdst)) Q) := by
  subst hm
  unfold Ow
  unfold twp op1 Prog.lift
  iintro ⟨#Hmw, Hf, %W', %hW, HO⟩ Hk
  iapply (Transfers.wp_waitLocalO countersEmb 𝒱₀ (thr d i) none (default : HIx 1) hN) $$ [Hf HO]
  · isplitl [Hf]; · iexact Hf
    isplitl [HO]; · iexact HO
    iapply (Transfers.MayWaits.elim (SemLoc.dma sm)) $$ Hmw
  iintro ⟨HR, Hz, HO⟩
  iapply (le_wp_ret (Fr := frame) (wpE := wpE (defs₀ (F := F)) 𝒱₀ (thr d i) none) (E := Set.univ) PUnit.unit Q)
  iapply Hk
  iframe HR Hz
  iexists _
  isplitr
  swap; · iexact HO
  ipureintro
  intro p hp
  rcases Finset.mem_insert.mp hp with h | h
  · exact .inr (h ▸ rfl)
  · exact hW p h

/-- The machine's check of a fact that holds. -/
theorem asm {p : Prop} {dec : Decidable p} (h : p) {Q : PLift p → sProp 𝕄} :
    Q ⟨h⟩ ⊢ twp d i (op1 (.assume p dec)) Q := by
  unfold twp op1 Prog.lift
  iintro H
  iapply (wp_assume 𝒱₀ (thr d i) none Set.univ h) $$ [H]
  iapply (le_wp_ret (Fr := frame) (wpE := wpE (defs₀ (F := F)) 𝒱₀ (thr d i) none) (E := Set.univ) _ Q)
  iexact H

end Cert.Proof.Enc

end
-- ==== Proof.Steps.lean ====
/-
  A tile's vector accesses and its indexed copy, stated over what a memref READS: a load gives the owned values through
  its rectangle; a store over an array known on a set of indices makes it known on the stored rectangle too; an indexed
  copy brings the rows of a table that its list names.
-/
module

public import proofs.«01_k».proof.Proof.Base

@[expose] public section

noncomputable section

namespace Cert.Proof.Enc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] {d : Dev nD} {i : grid0.Coords}

/-- The memref's elements, read as `S` on the indices in `A`. -/
def partOwn (d : Dev nD) (i : grid0.Coords) {s : Shape} {e : EltTy} (m : MR .vmem s e) (A : s.Idx → Prop) (S : s.Idx → Elt F e) : sProp 𝕄 :=
  iprop(∃ f, ⌜∀ x, A x → m.view.read (Elt F) f x = S x⌝ ∗ (m.view.loc (thr d i) ↦[m.view.set]{fullShare} f))

/-- Nothing need be known of an owned memref. -/
theorem partOwn_of_owns {s : Shape} {e : EltTy} {m : MR .vmem s e} {X S : s.Idx → Elt F e} :
    (owns (thr d i) m fullShare X : sProp 𝕄) ⊢ partOwn d i m (fun _ => False) S := by
  unfold owns partOwn
  iintro ⟨%f, -, H⟩
  iexists f
  isplitr; · ipureintro; exact fun _ h => h.elim
  iexact H

/-- A memref known everywhere is owned at its values. -/
theorem owns_of_partOwn {s : Shape} {e : EltTy} {m : MR .vmem s e} {A : s.Idx → Prop} {S : s.Idx → Elt F e} (h : ∀ x, A x) :
    (partOwn d i m A S : sProp 𝕄) ⊢ owns (thr d i) m fullShare S := by
  unfold owns partOwn
  iintro ⟨%f, %hf, H⟩
  iexists f
  isplitr; · ipureintro; exact funext fun x => hf x (h x)
  iexact H

/-- Less may be known. -/
theorem partOwn_weaken {s : Shape} {e : EltTy} {m : MR .vmem s e} {A B : s.Idx → Prop} {S : s.Idx → Elt F e} (h : ∀ x, B x → A x) :
    (partOwn d i m A S : sProp 𝕄) ⊢ partOwn d i m B S := by
  unfold partOwn
  iintro ⟨%f, %hf, H⟩
  iexists f
  isplitr; · ipureintro; exact fun x hx => hf x (h x hx)
  iexact H

/-- A load of an owned memref gives its values through the rectangle. -/
theorem ld {s : Shape} {e : EltTy} {m m' : MR .vmem s e} {r : Rect s} {hl : m.view.LoadsAt r.toLoadRect} (hm : m = m') {X : s.Idx → Elt F e}
    {Q : (r.shape.Idx → Elt F e) → sProp 𝕄} :
    (owns (thr d i) m' fullShare X)
      ⊢ iprop((owns (thr d i) m' fullShare X -∗ Q (fun y => X (r.emb y)))
          -∗ twp d i (op1 (.load m r.toLoadRect hl)) Q) := by
  subst hm
  unfold twp op1 Prog.lift owns
  iintro ⟨%f, %hf, H⟩ Hk
  iapply (wp_load_rect (m := m) (r := r) (hl := hl) (f := f) (q := fullShare) (k := Prog.ret) 𝒱₀ (thr d i) none Set.univ (View.set_slice_subset m.view r)) $$ H
  iintro H
  have e1 : (m.access r).read (Elt F) f = fun y => X (r.emb y) := by subst hf; rfl
  rw [e1]
  iapply (le_wp_ret (Fr := frame) (wpE := wpE (defs₀ (F := F)) 𝒱₀ (thr d i) none) (E := Set.univ) _ Q)
  iapply Hk
  iexists f
  isplitr; · ipureintro; exact hf
  iexact H

/-- A load whose value is not used. -/
theorem ldAny {s : Shape} {e : EltTy} {m m' : MR .vmem s e} {r : Rect s} {hl : m.view.LoadsAt r.toLoadRect} (hm : m = m') {A : s.Idx → Prop}
    {S : s.Idx → Elt F e} {Q : (r.shape.Idx → Elt F e) → sProp 𝕄} :
    (partOwn d i m' A S)
      ⊢ iprop((∀ v, partOwn d i m' A S -∗ Q v) -∗ twp d i (op1 (.load m r.toLoadRect hl)) Q) := by
  subst hm
  unfold twp op1 Prog.lift partOwn
  iintro ⟨%f, %hf, H⟩ Hk
  iapply (wp_load_rect (m := m) (r := r) (hl := hl) (f := f) (q := fullShare) (k := Prog.ret) 𝒱₀ (thr d i) none Set.univ (View.set_slice_subset m.view r)) $$ H
  iintro H
  iapply (le_wp_ret (Fr := frame) (wpE := wpE (defs₀ (F := F)) 𝒱₀ (thr d i) none) (E := Set.univ) _ Q)
  iapply Hk
  iexists f
  isplitr; · ipureintro; exact hf
  iexact H

/-- A store of the wanted values makes the memref known on the rectangle. -/
theorem st {s : Shape} {e : EltTy} {m m' : MR .vmem s e} {r : Rect s} {v : r.shape.Idx → Elt F e} {hx : (m.access r).Stores Finset.univ}
    {hu : Finset.univ = (Finset.univ : Finset r.shape.Idx) ∨ ∀ a, r.stride a = 1} (hm : m = m') {A B : s.Idx → Prop}
    {S : s.Idx → Elt F e} (hv : ∀ y, v y = S (r.emb y)) (hB : ∀ x, B x → A x ∨ ∃ y, r.emb y = x) {Q : PUnit → sProp 𝕄} :
    (partOwn d i m' A S)
      ⊢ iprop((partOwn d i m' B S -∗ Q ⟨⟩) -∗ twp d i (op1 (.store m r v Finset.univ hx hu)) Q) := by
  subst hm
  unfold twp op1 Prog.lift partOwn
  iintro ⟨%f, %hf, H⟩ Hk
  iapply (wp_store 𝒱₀ (thr d i) none Set.univ (show (m.access r).setOn Finset.univ ⊆ m.view.set from View.set_slice_subset _ r)) $$ H
  iintro H
  iapply (le_wp_ret (Fr := frame) (wpE := wpE (defs₀ (F := F)) 𝒱₀ (thr d i) none) (E := Set.univ) PUnit.unit Q)
  iapply Hk
  iexists _
  isplitr
  swap; · iexact H
  ipureintro
  intro x hBx
  by_cases hr : ∃ y, r.emb y = x
  · obtain ⟨y, rfl⟩ := hr
    exact (View.read_slice_write_emb r f v (Finset.mem_univ y)).trans (hv y)
  · exact (View.read_slice_write_of_not_mem r f v Finset.univ (fun h => hr (by
      obtain ⟨y, -, hy⟩ := Finset.mem_map.mp h
      exact ⟨y, hy⟩))).trans (hf x ((hB x hBx).resolve_right hr))

/-- An indexed copy: the table's share, the target owned, the list owned with every word naming a row, the semaphore
    at zero; the flight delivers the target at the named rows and everything else back. -/
theorem gath {tbl : MR .hbm S50x128 .f32} {dst : MR .vmem S64x128 .f32} {offs offs' : MR .vmem S64 .i32}
    {hn : S64.numel = S64x128.size (gathers_S50x128_S64x128.axis')} {sem : DmaSem sig}
    {hp : Proc.kind (.scVector ((i 0).castLE hcore0) ((i 1).castLE hsub0) : Proc τ) = .scVector} {hsrc : tbl.view.WordExact}
    {he : EltTy.bits .f32 = 32} {hsp : Space.hbm = .hbm ∨ Space.hbm = .shared} {hr : S50x128.StreamRows 0}
    (ho : offs = offs') {q : PosShare TreeShare} {fs : Buf (Elt F) (tbl.view.loc (thr d i))} {X : S64x128.Idx → Elt F .f32}
    {L : S64.Idx → Elt F .i32} {N : ℕ}
    (hN : ∑ j, (dst.slice (S64x128.rowRect gathers_S50x128_S64x128.axis' j) (S64x128.stride_rowRect gathers_S50x128_S64x128.axis' j)).view.dmaCredit = N)
    (hin : ∀ x, (L x).toNat < S50x128.size gathers_S50x128_S64x128.axis) {Q : PUnit → sProp 𝕄} :
    iprop((tbl.view.loc (thr d i) ↦{q} fs) ∗ owns (thr d i) dst fullShare X ∗ owns (thr d i) offs' fullShare L ∗ z0 d i sem)
      ⊢ iprop((Fl d i sem N iprop(owns (thr d i) dst fullShare
                (SparseCore.gatherPayload gathers_S50x128_S64x128 (tbl.view.read (Elt F) fs) (SparseCore.rows L hn hin))
              ∗ (tbl.view.loc (thr d i) ↦{q} fs) ∗ owns (thr d i) offs' fullShare L) -∗ Q ⟨⟩)
          -∗ twp d i (SparseCore.enqueueIndirectGather (F := F) (Λ := Λ₀) hp tbl dst gathers_S50x128_S64x128 offs hn sem hsrc he hsp hr) Q) := by
  subst ho
  unfold owns
  iintro ⟨Ht, ⟨%fd, -, Hd⟩, ⟨%fo, %hfo, Ho⟩, Hz⟩ Hk
  subst hfo
  ihave ⟨Ht, Htr⟩ := (pointsTo_split_subset (Finset.subset_univ tbl.view.set)).1 $$ Ht
  have hb : (SparseCore.enqueueIndirectGather (F := F) (Λ := Λ₀) hp tbl dst gathers_S50x128_S64x128 offs hn sem hsrc he hsp hr : TP F i PUnit)
      = SparseCore.enqueueIndirectGather (F := F) (Λ := Λ₀) hp tbl dst gathers_S50x128_S64x128 offs hn sem hsrc he hsp hr >>= Prog.ret :=
    (bind_pure _).symm
  unfold twp
  rw [hb]
  iapply (SparseCore.wp_indirectGatherLocal countersEmb 𝒱₀ (thr d i) none (default : HIx 1) N hN (by decide) hin) $$ [Ht Hd Ho Hz]
  · iframe Ht Hd Ho Hz
  iintro Hf
  iapply (le_wp_ret (Fr := frame) (wpE := wpE (defs₀ (F := F)) 𝒱₀ (thr d i) none) (E := Set.univ) PUnit.unit Q)
  iapply Hk
  iapply (Transfers.Flight_mono countersEmb (thr d i) (D := iprop((tbl.view.loc (thr d i) ↦[Finset.univ \ tbl.view.set]{q} fs)
      ∗ ((dst.view.loc (thr d i) ↦[dst.view.set]{fullShare} (dst.view.write (Elt F) fd (SparseCore.gatherPayload gathers_S50x128_S64x128 (tbl.view.read (Elt F) fs) (SparseCore.rows (offs.view.read
          (Elt F) fo) hn hin)) Finset.univ))
        ∗ (tbl.view.loc (thr d i) ↦[tbl.view.set]{q} fs) ∗ (offs.view.loc (thr d i) ↦[offs.view.set]{fullShare} fo)))) (by
    iintro ⟨Htr, Hd, Ht, Ho⟩
    isplitl [Hd]
    · iexists _
      isplitr
      swap; · iexact Hd
      ipureintro
      exact View.read_write_univ _ _
    isplitl [Ht Htr]
    · iapply ((pointsTo_split_subset (Finset.subset_univ tbl.view.set)).2)
      iframe Ht Htr
    iexists fo
    isplitr; · ipureintro; rfl
    iexact Ho))
  iapply (Transfers.Flight_frame countersEmb (thr d i))
  iframe Htr Hf

/-- The wait for an indexed copy. -/
theorem gathWait {s' : Shape} {e' : EltTy} {s : Shape} {e : EltTy} {srcw : MR .hbm s' e'} {dst : MR .vmem s e} {sm : DmaSem sig} {hsrc : srcw.view.WordExact}
    {hdst : dst.view.WordExact} {N : ℕ} (hN : dst.view.dmaCredit = N)
    {O : CellTallies nD τ sig (HIx 1)} {W : Waits sig (HIx 1)} {R : sProp 𝕄} {Q : PUnit → sProp 𝕄} :
    iprop(Mw d i O ∗ Fl d i sm N R ∗ Ow d i O W)
      ⊢ iprop((iprop(R ∗ z0 d i sm ∗ Ow d i O W) -∗ Q ⟨⟩)
          -∗ twp d i (SparseCore.waitIndirectGather (F := F) (Λ := Λ₀) sm srcw dst hsrc hdst) Q) :=
  wait rfl hN

end Cert.Proof.Enc

end
-- ==== Proof.Carried.lean ====
/-
  The words a trip of the pipeline carries to the next: each is a select over the trip number and the tile's own block
  numbers, and comes to the next trip's count.
-/
module

public import proofs.«01_k».proof.Proof.Words

@[expose] public section

namespace Cert.Proof.Words

open Cert.KernelIdeal Cert.KernelIdeal.Gen
open Idealize.ShloMosaic

/-- The tile's first block, as the program computes it. -/
def first (i : grid0.Coords) : BitVec 32 :=
  Scalar.muli (Scalar.addi (Scalar.addi 0#32 (Scalar.muli (BitVec.ofNat 32 (i 1).val) 1#32)) (Scalar.muli (BitVec.ofNat 32 (i 0).val) 16#32)) 128#32

/-- The trip's number. -/
def trip (t : T1) : BitVec 32 := Scf.iv 0#32 1#32 t
/-- Whether the trip is the first. -/
def isFirst (t : T1) : BitVec 1 := Scalar.cmpi .eq (trip t) 0#32
/-- Whether the trip is the last. -/
def isLast (t : T1) : BitVec 1 := Scalar.cmpi .eq (trip t) 127#32
/-- The trip's block. -/
def block (i : grid0.Coords) (t : T1) : BitVec 32 := Scalar.addi (w t.val) (first i)
/-- The block before it, round the tile's own. -/
def blockBefore (i : grid0.Coords) (t : T1) : BitVec 32 :=
  Scalar.addi (Scalar.select (Scalar.cmpi .eq (Scalar.select 1#1 (Scalar.subi (w t.val) 1#32) (w t.val)) 4294967295#32) 127#32
    (Scalar.select 1#1 (Scalar.subi (w t.val) 1#32) (w t.val))) (first i)
/-- The next trip's number, back to zero after the last. -/
def tripAfter (t : T1) : BitVec 32 :=
  Scalar.select (Scalar.cmpi .eq (Scalar.select 1#1 (Scalar.addi (w t.val) 1#32) (w t.val)) 128#32) 0#32
    (Scalar.select 1#1 (Scalar.addi (w t.val) 1#32) (w t.val))
/-- The block after it, round the tile's own. -/
def blockAfter (i : grid0.Coords) (t : T1) : BitVec 32 := Scalar.addi (tripAfter t) (first i)
/-- Whether the next trip's block is another one. -/
def another (i : grid0.Coords) (t : T1) : BitVec 1 := Scalar.cmpi .ne (block i t) (blockAfter i t)
/-- Whether there is a next trip. -/
def notEnd (t : T1) : BitVec 1 := Scalar.xori (Scalar.cmpi .sge (trip t) 127#32) 1#1
/-- Blocks asked for so far. -/
def asked (i : grid0.Coords) (t : T1) : BitVec 32 :=
  Scalar.select (Scalar.andi (Scalar.andi (another i t) (notEnd t)) 1#1) (Scalar.addi (w (t.val + 1)) 1#32) (w (t.val + 1))
/-- Blocks used so far. -/
def used (i : grid0.Coords) (t : T1) : BitVec 32 :=
  Scalar.select (Scalar.ori (another i t) (isLast t)) (Scalar.addi (w t.val) 1#32) (w t.val)
/-- Blocks sent out so far. -/
def sent (i : grid0.Coords) (t : T1) : BitVec 32 :=
  Scalar.select (Scalar.andi (Scalar.ori (another i t) (isLast t)) 1#1) (Scalar.addi (w t.val) 1#32) (w t.val)
/-- Blocks sent out and waited for so far. -/
def arrived (i : grid0.Coords) (t : T1) : BitVec 32 :=
  Scalar.select (Scalar.andi (Scalar.andi (Scalar.cmpi .ne (block i t) (blockBefore i t)) (Scalar.xori (isFirst t) 1#1)) 1#1)
    (Scalar.addi (w (t.val - 1)) 1#32) (w (t.val - 1))

/-- Blocks asked for when trip `k` starts. -/
def ahead (k : ℕ) : BitVec 32 := w (min (k + 1) 128)

/-- The words carried into trip `k`. -/
def acc (k : ℕ) : BitVec 32 × BitVec 32 × BitVec 32 × BitVec 32 × BitVec 32 × BitVec 32 × BitVec 32 × BitVec 32 × BitVec 32 :=
  (ahead k, w k, ahead k, w k, ahead k, w k, w k, w (k - 1), w (k % 128))

/-- After trip `t` a stream of inputs has asked for the chunks up to the one after next, or all of them. -/
theorem asked_eq : ∀ (i : grid0.Coords) (t : T1), asked i t = ahead (t.val + 1) := by decide +kernel
/-- After trip `t` a stream of inputs has used `t + 1` chunks, -/
theorem used_eq : ∀ (i : grid0.Coords) (t : T1), used i t = w (t.val + 1) := by decide +kernel
/-- the output has sent `t + 1` chunks, -/
theorem sent_eq : ∀ (i : grid0.Coords) (t : T1), sent i t = w (t.val + 1) := by decide +kernel
/-- and `t` of them have arrived. -/
theorem arrived_eq : ∀ (i : grid0.Coords) (t : T1), arrived i t = w t.val := by decide +kernel
/-- The trip after `t`, counted modulo 128. -/
theorem tripAfter_eq : ∀ (t : T1), tripAfter t = w ((t.val + 1) % 128) := by decide +kernel

/-- The loop makes 128 trips. -/
theorem lt_128 (t : T1) : t.val < 128 := lt_of_lt_of_eq t.isLt (by decide +kernel)

/-- In a trip, the words carried into it are its own count, the next and the one before. -/
theorem acc_trip (t : T1) : acc t.val
    = (w (t.val + 1), w t.val, w (t.val + 1), w t.val, w (t.val + 1), w t.val, w t.val, w (t.val - 1), w t.val) := by
  have h := lt_128 t
  unfold acc ahead
  rw [min_eq_left (by omega), Nat.mod_eq_of_lt h]

end Cert.Proof.Words
-- ==== Proof.Ring.lean ====
/-
  The kernel's arrays and slots by name, the equations between the program's slices and these names, and the two slots
  of a stream: free, on the way, there.
-/
module

public import proofs.«01_k».proof.Proof.Steps
public import proofs.«01_k».proof.Proof.Carried

@[expose] public section

noncomputable section

namespace Cert.Proof.Enc

open Cert.KernelIdeal Cert.KernelIdeal.Gen
open Cert.Proof.Words
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The kernel's arrays, as a tile names them. -/
abbrev mX : MR .hbm S262144x256 .f32 := Memref.whole main_arg0_scv
/-- The first list of indices, -/
abbrev mP0 : MR .hbm S4096x64 .i32 := Memref.whole main_v2_scv
/-- the second, -/
abbrev mP1 : MR .hbm S4096x64 .i32 := Memref.whole main_v5_scv
/-- the first table, -/
abbrev mT0 : MR .hbm S50x128 .f32 := Memref.whole main_arg2_scv
/-- the second, -/
abbrev mT1 : MR .hbm S50x128 .f32 := Memref.whole main_arg3_scv
/-- the result. -/
abbrev mO : MR .hbm S262144x256 .f32 := Memref.whole main_v6_scv
/-- A tile's own buffers: the rows found, and the two slots of each of the four streams. -/
abbrev mE0 : MR .vmem S64x128 .f32 := Memref.whole cc0_scratch0
/-- The rows gathered from the second table. -/
abbrev mE1 : MR .vmem S64x128 .f32 := Memref.whole cc0_scratch1
/-- The ring of the first list's blocks, -/
abbrev bP0 : MR .vmem S2x1x64 .i32 := Memref.whole cc0_scoped0
/-- of the second's, -/
abbrev bP1 : MR .vmem S2x1x64 .i32 := Memref.whole cc0_scoped2
/-- of the blocks of `x` -/
abbrev bX : MR .vmem S2x64x256 .f32 := Memref.whole cc0_scoped4
/-- and of the result's. -/
abbrev bO : MR .vmem S2x64x256 .f32 := Memref.whole cc0_scoped6

/-- A list's slot lies in its ring, -/
theorem slL_inb (n : ℕ) : ∀ a, sl3 n a + S1x1x64.size a ≤ S2x1x64.size a := by
  intro a
  fin_cases a
  · show n % 2 + 1 ≤ 2; omega
  · show 0 + 1 ≤ 1; omega
  · show 0 + 64 ≤ 64; omega

/-- so does a slot of 64 rows, -/
theorem slX_inb (n : ℕ) : ∀ a, sl3 n a + S1x64x256.size a ≤ S2x64x256.size a := by
  intro a
  fin_cases a
  · show n % 2 + 1 ≤ 2; omega
  · show 0 + 64 ≤ 64; omega
  · show 0 + 256 ≤ 256; omega

/-- and a slot's semaphore among the two. -/
theorem slS_inb (n : ℕ) : ∀ a, sl1 n a + S1.size a ≤ S2.size a := by
  intro a
  fin_cases a
  show n % 2 + 1 ≤ 2; omega

/-- The slot of block `n` in a list's stream, -/
abbrev lS (m : MR .vmem S2x1x64 .i32) (n : ℕ) : MR .vmem S1x64 .i32 :=
  (m.slice (Rect.unit (s := S2x1x64) (sl3 n) S1x1x64.size (slL_inb n)) (fun _ => rfl)).squeeze S1x64 squeezes_S1x1x64_S1x64
/-- in a stream of rows, -/
abbrev xS (m : MR .vmem S2x64x256 .f32) (n : ℕ) : MR .vmem S64x256 .f32 :=
  (m.slice (Rect.unit (s := S2x64x256) (sl3 n) S1x64x256.size (slX_inb n)) (fun _ => rfl)).squeeze S64x256 squeezes_S1x64x256_S64x256
/-- and its semaphore. -/
abbrev sS (v : DmaSems sig S2) (n : ℕ) : DmaSem sig :=
  ((v.slice (Rect.unit (s := S2) (sl1 n) S1.size (slS_inb n))).squeeze S_ squeezes_S1_S_).sem

/-- A list's slot by the offset the program computes, -/
theorem lS_eq {m : MR .vmem S2x1x64 .i32} {n : ℕ} {off : Fin 3 → ℕ} (h : off = sl3 n) {hb : ∀ a, off a + S1x1x64.size a ≤ S2x1x64.size a} :
    (m.slice (Rect.unit (s := S2x1x64) off S1x1x64.size hb) (fun _ => rfl)).squeeze S1x64 squeezes_S1x1x64_S1x64 = lS m n := by
  subst h; rfl

/-- a slot of 64 rows, -/
theorem xS_eq {m : MR .vmem S2x64x256 .f32} {n : ℕ} {off : Fin 3 → ℕ} (h : off = sl3 n) {hb : ∀ a, off a + S1x64x256.size a ≤ S2x64x256.size a} :
    (m.slice (Rect.unit (s := S2x64x256) off S1x64x256.size hb) (fun _ => rfl)).squeeze S64x256 squeezes_S1x64x256_S64x256 = xS m n := by
  subst h; rfl

/-- and a slot's semaphore. -/
theorem sS_eq {v : DmaSems sig S2} {n : ℕ} {off : Fin 1 → ℕ} (h : off = sl1 n) {hb : ∀ a, off a + S1.size a ≤ S2.size a} :
    ((v.slice (Rect.unit (s := S2) off S1.size hb)).squeeze S_ squeezes_S1_S_).sem = sS v n := by
  subst h; rfl

/-- Two blocks on, the slot is the same. -/
theorem lS_two (m : MR .vmem S2x1x64 .i32) (n : ℕ) : lS m (n + 2) = lS m n := lS_eq (by unfold sl3; rw [Nat.add_mod_right])
/-- Two chunks on, the slot is the same -/
theorem xS_two (m : MR .vmem S2x64x256 .f32) (n : ℕ) : xS m (n + 2) = xS m n := xS_eq (by unfold sl3; rw [Nat.add_mod_right])
/-- and so is its semaphore. -/
theorem sS_two (v : DmaSems sig S2) (n : ℕ) : sS v (n + 2) = sS v n := sS_eq (by unfold sl1; rw [Nat.add_mod_right])

/-- Where block `n` of a tile starts in the lists, -/
abbrev offL (i : grid0.Coords) (n : ℕ) : Fin 2 → ℕ := ![(cb i + n) % 4096, 0]
/-- and in the rows. -/
abbrev offX (i : grid0.Coords) (n : ℕ) : Fin 2 → ℕ := ![64 * ((cb i + n) % 4096), 0]

/-- A chunk's row lies in its list, -/
theorem offL_inb (i : grid0.Coords) (n : ℕ) : ∀ a, offL i n a + S1x64.size a ≤ S4096x64.size a := by
  intro a
  fin_cases a
  · show (cb i + n) % 4096 + 1 ≤ 4096; omega
  · show 0 + 64 ≤ 64; omega

/-- and its 64 rows in `x`. -/
theorem offX_inb (i : grid0.Coords) (n : ℕ) : ∀ a, offX i n a + S64x256.size a ≤ S262144x256.size a := by
  intro a
  fin_cases a
  · show 64 * ((cb i + n) % 4096) + 64 ≤ 262144; omega
  · show 0 + 256 ≤ 256; omega

/-- The rectangle of block `n` among the rows. -/
abbrev rX (i : grid0.Coords) (n : ℕ) : Rect S262144x256 := Rect.unit (s := S262144x256) (offX i n) S64x256.size (offX_inb i n)

/-- Block `n` of a list, -/
abbrev rowL (m : MR .hbm S4096x64 .i32) (i : grid0.Coords) (n : ℕ) : MR .hbm S1x64 .i32 :=
  m.slice (Rect.unit (s := S4096x64) (offL i n) S1x64.size (offL_inb i n)) (fun _ => rfl)
/-- and of the rows. -/
abbrev rowX (m : MR .hbm S262144x256 .f32) (i : grid0.Coords) (n : ℕ) : MR .hbm S64x256 .f32 :=
  m.slice (rX i n) (fun _ => rfl)

/-- The tile's chunks are among the 4096. -/
theorem cb_lt (i : grid0.Coords) {n : ℕ} (h : n < 128) : (cb i + n) % 4096 = cb i + n := by
  have h0 : (i 0).val < 2 := (i 0).isLt
  have h1 : (i 1).val < 16 := (i 1).isLt
  refine Nat.mod_eq_of_lt ?_
  show 128 * (i 1).val + 2048 * (i 0).val + n < 4096
  omega

/-- A chunk's row of a list by the offset the program computes, -/
theorem rowL_eq {m : MR .hbm S4096x64 .i32} {i : grid0.Coords} {n : ℕ} {off : Fin 2 → ℕ} (hn : n < 128) (h : off = ![cb i + n, 0])
    {hb : ∀ a, off a + S1x64.size a ≤ S4096x64.size a} :
    m.slice (Rect.unit (s := S4096x64) off S1x64.size hb) (fun _ => rfl) = rowL m i n := by
  have h : off = offL i n := by rw [h, offL, cb_lt i hn]
  subst h; rfl

/-- and its 64 rows of `x` or of the result. -/
theorem rowX_eq {m : MR .hbm S262144x256 .f32} {i : grid0.Coords} {n : ℕ} {off : Fin 2 → ℕ} (hn : n < 128) (h : off = ![64 * (cb i + n), 0])
    {hb : ∀ a, off a + S64x256.size a ≤ S262144x256.size a} :
    m.slice (Rect.unit (s := S262144x256) off S64x256.size hb) (fun _ => rfl) = rowX m i n := by
  have h : off = offX i n := by rw [h, offX, cb_lt i hn]
  subst h; rfl

/-- The list of 64 positions a slot holds, as the indexed copy names it. -/
abbrev pL (m : MR .vmem S1x64 .i32) : MR .vmem S64 .i32 :=
  (m.slice (Rect.unit (s := S1x64) ![0, 0] S1x64.size inb_S1x64_S1x64_0_0) (fun _ => rfl)).squeeze S64 squeezes_S1x64_S64

variable [FloatOps F] {d : Dev nD} {i : grid0.Coords}

/-- A copy between two owned memrefs: on its completion the target reads what the source reads. -/
theorem enqO {sp sp' : Space} {s : Shape} {e : EltTy} {src src' : MR sp s e} {dst dst' : MR sp' s e} {sm sm' : DmaSem sig}
    {hsrc : src.view.WordExact} {hdst : dst.view.WordExact} {hsem : DmaTarget.Typed (nD := nD) (τ := τ) (p := .scVector ((i 0).castLE hcore0) ((i 1).castLE hsub0)) sp (.dma sm) (.here dst)}
    (hs : src = src') (hd : dst = dst') (hm : sm = sm') (hn : 0 < s.numel) {X Y : s.Idx → Elt F e} {Q : PUnit → sProp 𝕄} :
    iprop(owns (thr d i) src' fullShare Y ∗ owns (thr d i) dst' fullShare X ∗ z0 d i sm')
      ⊢ iprop((Fl d i sm' dst'.view.dmaCredit iprop(owns (thr d i) dst' fullShare Y ∗ owns (thr d i) src' fullShare Y) -∗ Q ⟨⟩)
          -∗ twp d i (op1 (.enqueueDma src (.here dst) (.dma sm) hsrc hdst hsem)) Q) := by
  subst hs hd hm
  unfold owns
  unfold twp op1 Prog.lift
  iintro ⟨⟨%fs, %hfs, Hs⟩, ⟨%fd, -, Hd⟩, Hv⟩ Hk
  subst hfs
  iapply (Transfers.wp_dmaLocal countersEmb 𝒱₀ (thr d i) none (via := .same) (default : HIx 1) dst.view.dmaCredit rfl
    (View.dmaCredit_pos _ hn) (Finset.Subset.refl _)) $$ [Hs Hd Hv]
  · iframe Hs Hd Hv
  iintro Hfl
  iapply (le_wp_ret (Fr := frame) (wpE := wpE (defs₀ (F := F)) 𝒱₀ (thr d i) none) (E := Set.univ) PUnit.unit Q)
  iapply Hk
  iapply (Transfers.Flight_mono countersEmb (thr d i) (D := iprop((dst.view.loc (thr d i) ↦[dst.view.set]{fullShare} (dst.view.write (Elt F) fd (ReadAs.same.apply (src.view.read (Elt F) fs)) Finset.univ))
      ∗ (src.view.loc (thr d i) ↦[src.view.set]{fullShare} fs))) (by
    iintro ⟨Hd, Hs⟩
    isplitl [Hd]
    · iexists _
      isplitr
      swap; · iexact Hd
      ipureintro
      exact View.read_write_univ _ _
    iexists fs
    isplitr; · ipureintro; rfl
    iexact Hs))
  iexact Hfl

/-! ## A stream's two slots -/

/-- Slot `n` with nothing in flight. -/
def rFree (d : Dev nD) (i : grid0.Coords) {s : Shape} {e : EltTy} (sl : ℕ → MR .vmem s e) (sm : ℕ → DmaSem sig) (H : ℕ → sProp 𝕄) (n : ℕ) : sProp 𝕄 :=
  iprop(∃ X, owns (thr d i) (sl n) fullShare X ∗ z0 d i (sm n) ∗ H n)
/-- Slot `n` with its block on the way. -/
def rFl (d : Dev nD) (i : grid0.Coords) {s : Shape} {e : EltTy} (sl : ℕ → MR .vmem s e) (sm : ℕ → DmaSem sig) (H : ℕ → sProp 𝕄) (v : ℕ → s.Idx → Elt F e) (n : ℕ) : sProp 𝕄 :=
  Fl d i (sm n) (sl n).view.dmaCredit iprop(owns (thr d i) (sl n) fullShare (v n) ∗ H n)
/-- Slot `n` with its block there. -/
def rGot (d : Dev nD) (i : grid0.Coords) {s : Shape} {e : EltTy} (sl : ℕ → MR .vmem s e) (sm : ℕ → DmaSem sig) (H : ℕ → sProp 𝕄) (v : ℕ → s.Idx → Elt F e) (n : ℕ) : sProp 𝕄 :=
  iprop(owns (thr d i) (sl n) fullShare (v n) ∗ z0 d i (sm n) ∗ H n)
/-- Slot `n` when the trips have asked for it: on the way as long as there is such a block. -/
def rAsk (d : Dev nD) (i : grid0.Coords) {s : Shape} {e : EltTy} (sl : ℕ → MR .vmem s e) (sm : ℕ → DmaSem sig) (H : ℕ → sProp 𝕄) (v : ℕ → s.Idx → Elt F e) (n : ℕ) : sProp 𝕄 :=
  if n < 128 then rFl d i sl sm H v n else rFree d i sl sm H n

section Ring

variable {s : Shape} {e : EltTy} {sl : ℕ → MR .vmem s e} {sm : ℕ → DmaSem sig} {H : ℕ → sProp (MT nD τ sig (HIx 1) (Elt F) ℕ UU ℕ)} {dat : ℕ → s.Idx → Elt F e}

/-- A slot whose block has been used is free for the chunk two on. -/
theorem rFree_of_rGot {n : ℕ} (h1 : sl (n + 2) = sl n) (h2 : sm (n + 2) = sm n) (h3 : H (n + 2) = H n) :
    rGot d i sl sm H dat n ⊢ rFree d i sl sm H (n + 2) := by
  unfold rGot rFree
  rw [h1, h2, h3]
  iintro H
  iexists (dat n)
  iexact H

/-- A block asked for: the free slot and its share become a copy under way. -/
theorem rEnq {sp : Space} {A A' : MR sp s e} {fs : Buf (Elt F) (A'.view.loc (thr d i))} {q : PosShare TreeShare} {n : ℕ}
    {dst : MR .vmem s e} {sem : DmaSem sig} {hsrc : A.view.WordExact} {hdst : dst.view.WordExact}
    {hsem : DmaTarget.Typed (nD := nD) (τ := τ) (p := .scVector ((i 0).castLE hcore0) ((i 1).castLE hsub0)) sp (.dma sem) (.here dst)}
    (hA : A = A') (hd : dst = sl n) (hm : sem = sm n) (hn : 0 < s.numel) (hH : H n = iprop(A'.view.loc (thr d i) ↦{q} fs))
    (hv : A'.view.read (Elt F) fs = dat n) (hlt : n < 128) {Q : PUnit → sProp 𝕄} :
    rFree d i sl sm H n ⊢ iprop((rAsk d i sl sm H dat n -∗ Q ⟨⟩) -∗ twp d i (op1 (.enqueueDma A (.here dst) (.dma sem) hsrc hdst hsem)) Q) := by
  unfold rFree rAsk rFl
  rw [if_pos hlt, hH, ← hv]
  iintro ⟨%X, Hs, Hz, HA⟩
  iapply (enq hA hd hm hn)
  iframe HA Hs Hz

/-- A block waited for: the copy under way becomes the slot's contents. -/
theorem rWait {sp : Space} {s' : Shape} {e' : EltTy} {A : MR sp s' e'} {n : ℕ} {dst : MR .vmem s e} {sem : DmaSem sig} {hsrc : A.view.WordExact}
    {hdst : dst.view.WordExact} (hd : dst = sl n) (hm : sem = sm n) (hlt : n < 128)
    {O : CellTallies nD τ sig (HIx 1)} {W : Waits sig (HIx 1)} {Q : PUnit → sProp 𝕄} :
    iprop(Mw d i O ∗ rAsk d i sl sm H dat n ∗ Ow d i O W)
      ⊢ iprop((iprop(rGot d i sl sm H dat n ∗ Ow d i O W) -∗ Q ⟨⟩) -∗ twp d i (op1 (.waitDma2 sem A dst hsrc hdst)) Q) := by
  unfold rAsk rGot rFl
  rw [if_pos hlt]
  iintro H Hk
  iapply (wait hm (by rw [hd])) $$ H
  iintro ⟨⟨H1, H2⟩, H3, H4⟩
  iapply Hk
  iframe H1 H2 H3 H4

end Ring

/-- The place in a slot of the list's word `x`. -/
abbrev lstIdx (x : S64.Idx) : S1x64.Idx :=
  (Rect.unit (s := S1x64) ![0, 0] S1x64.size inb_S1x64_S1x64_0_0).emb (Shape.reshapeEquiv (Shape.Squeezes.numel_eq squeezes_S1x64_S64) x)

/-- A list's row without its first axis has the same elements. -/
theorem pL_set {m : MR .vmem S1x64 .i32} : (pL m).view.set = m.view.set := by
  refine (View.set_reshape (m.view.slice (Rect.unit (s := S1x64) ![0, 0] S1x64.size inb_S1x64_S1x64_0_0)) (Shape.Squeezes.numel_eq squeezes_S1x64_S64)).trans ?_
  rw [View.set_slice]
  have h : (Rect.unit (s := S1x64) ![0, 0] S1x64.size inb_S1x64_S1x64_0_0).set = Finset.univ := by
    ext x
    rw [← Rect.map_emb_univ]
    refine ⟨fun _ => Finset.mem_univ _, fun _ => Finset.mem_map.mpr ⟨x, Finset.mem_univ _, ?_⟩⟩
    funext a
    apply Fin.ext
    fin_cases a
    · show 0 + 1 * (x 0).val = (x 0).val; omega
    · show 0 + 1 * (x 1).val = (x 1).val; omega
  rw [h]; rfl

/-- The list a slot holds, owned for the indexed copy, -/
theorem owns_pL {m : MR .vmem S1x64 .i32} {X : S1x64.Idx → Elt F .i32} :
    (owns (thr d i) m fullShare X : sProp 𝕄) ⊢ owns (thr d i) (pL m) fullShare (fun x => X (lstIdx x)) := by
  unfold owns
  rw [pL_set]
  iintro ⟨%f, %hf, H⟩
  iexists f
  isplitr; · ipureintro; subst hf; rfl
  iexact H

/-- and given back. -/
theorem owns_of_pL {m : MR .vmem S1x64 .i32} {L : S64.Idx → Elt F .i32} :
    (owns (thr d i) (pL m) fullShare L : sProp 𝕄) ⊢ iprop(∃ X, owns (thr d i) m fullShare X) := by
  unfold owns
  rw [pL_set]
  iintro ⟨%f, -, H⟩
  iexists (m.view.read (Elt F) f), f
  isplitr; · ipureintro; rfl
  iexact H

end Cert.Proof.Enc

end
-- ==== Proof.Rows.lean ====
/-
  One block's rows: a trip of the inner loop adds, sixteen columns at a time, the row read to the two rows found, and
  stores the sums in the output slot.
-/
module

public import proofs.«01_k».proof.Proof.Ring
public import proofs.«01_k».proof.Proof.Gen.KernelIdeal.Skeleton

@[expose] public section

noncomputable section

namespace Cert.Proof.Enc

open Cert.KernelIdeal Cert.KernelIdeal.Gen
open Cert.Proof.Words
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] {d : Dev nD} {i : grid0.Coords}

/-- Two halves side by side: 128 columns of the first, then 128 of the second. -/
def beside (E0 E1 : S64x128.Idx → Elt F .f32) : S64x256.Idx → Elt F .f32 := fun y =>
  if h : (y 1).val < 128 then E0 (fun a => match a with | 0 => y 0 | 1 => ⟨(y 1).val, h⟩)
  else E1 (fun a => match a with | 0 => y 0 | 1 => ⟨(y 1).val - 128, by have h2 : (y 1).val < 256 := (y 1).isLt; show (y 1).val - 128 < 128; omega⟩)

/-- What a block's rows come to: the rows read plus the rows found. -/
def rowsOut (X : S64x256.Idx → Elt F .f32) (E0 E1 : S64x128.Idx → Elt F .f32) : S64x256.Idx → Elt F .f32 :=
  (addf (X : FVec F S64x256 .f32) (beside E0 E1) : FVec F S64x256 .f32)

/-- The indices done: the rows before `r`, and of row `r` the first `a` columns and `b` from column 128 on. -/
def known (r a b : ℕ) (y : S64x256.Idx) : Prop :=
  (y 0).val < r ∨ ((y 0).val = r ∧ ((y 1).val < a ∨ (128 ≤ (y 1).val ∧ (y 1).val < 128 + b)))

/-- Reading sixteen lanes as a row of one changes no sum. -/
theorem addf_cast (x e : S1x16.Idx → Elt F .f32) (y : S1x16.Idx) :
    k0_pay1 x e y = (addf (x : FVec F S1x16 .f32) e : FVec F S1x16 .f32) y := by
  show FloatOps.addf (x (Shape.reshapeEquiv _ (Shape.reshapeEquiv _ y))) (e (Shape.reshapeEquiv _ (Shape.reshapeEquiv _ y))) = FloatOps.addf (x y) (e y)
  rw [Shape.reshapeEquiv_reshapeEquiv, Shape.reshapeEquiv_self]

/-- What a store to the left half writes is the sum at those lanes, -/
theorem payL {X : S64x256.Idx → Elt F .f32} {E0 E1 : S64x128.Idx → Elt F .f32} {r c : ℕ} (hc : c + 16 ≤ 128) {ox oe oo : Fin 2 → ℕ}
    (hx : ox = ![r, c]) (he : oe = ![r, c]) (ho : oo = ![r, c]) {hbx : ∀ a, ox a + S1x16.size a ≤ S64x256.size a}
    {hbe : ∀ a, oe a + S1x16.size a ≤ S64x128.size a} {hbo : ∀ a, oo a + S1x16.size a ≤ S64x256.size a} (y : S1x16.Idx) :
    k0_pay1 (fun y => X ((Rect.unit (s := S64x256) ox S1x16.size hbx).emb y)) (fun y => E0 ((Rect.unit (s := S64x128) oe S1x16.size hbe).emb y)) y
      = rowsOut X E0 E1 ((Rect.unit (s := S64x256) oo S1x16.size hbo).emb y) := by
  subst hx he ho
  rw [addf_cast]
  have hy : (y 1).val < 16 := (y 1).isLt
  have hlt : ((((Rect.unit (s := S64x256) ![r, c] S1x16.size hbo).emb y)) 1).val < 128 := by
    show c + 1 * (y 1).val < 128
    omega
  show FloatOps.addf (X _) (E0 _) = FloatOps.addf (X _) (beside E0 E1 _)
  unfold beside
  rw [dif_pos hlt]
  congr 2
  funext a
  fin_cases a <;> rfl

/-- and so is what a store to the right half writes. -/
theorem payR {X : S64x256.Idx → Elt F .f32} {E0 E1 : S64x128.Idx → Elt F .f32} {r c c' : ℕ} (hc : c' = 128 + c) {ox oe oo : Fin 2 → ℕ}
    (hx : ox = ![r, c']) (he : oe = ![r, c]) (ho : oo = ![r, c']) {hbx : ∀ a, ox a + S1x16.size a ≤ S64x256.size a}
    {hbe : ∀ a, oe a + S1x16.size a ≤ S64x128.size a} {hbo : ∀ a, oo a + S1x16.size a ≤ S64x256.size a} (y : S1x16.Idx) :
    k0_pay1 (fun y => X ((Rect.unit (s := S64x256) ox S1x16.size hbx).emb y)) (fun y => E1 ((Rect.unit (s := S64x128) oe S1x16.size hbe).emb y)) y
      = rowsOut X E0 E1 ((Rect.unit (s := S64x256) oo S1x16.size hbo).emb y) := by
  subst hx he ho hc
  rw [addf_cast]
  have hge : ¬ ((((Rect.unit (s := S64x256) ![r, 128 + c] S1x16.size hbo).emb y)) 1).val < 128 := by
    show ¬ 128 + c + 1 * (y 1).val < 128
    omega
  show FloatOps.addf (X _) (E1 _) = FloatOps.addf (X _) (beside E0 E1 _)
  unfold beside
  rw [dif_neg hge]
  congr 2
  funext a
  fin_cases a
  · rfl
  · apply Fin.ext
    show c + 1 * (y 1).val = 128 + c + 1 * (y 1).val - 128
    omega

/-- Where the lanes of one store lie. -/
theorem at_rect {r c : ℕ} {o : Fin 2 → ℕ} (ho : o = ![r, c]) {hb : ∀ a, o a + S1x16.size a ≤ S64x256.size a} {x : S64x256.Idx}
    (h0 : (x 0).val = r) (h1 : c ≤ (x 1).val) (h2 : (x 1).val < c + 16) :
    ∃ y, (Rect.unit (s := S64x256) o S1x16.size hb).emb y = x := by
  subst ho
  refine ⟨fun a => match a with | 0 => ⟨0, Nat.one_pos⟩ | 1 => ⟨(x 1).val - c, by show (x 1).val - c < 16; omega⟩, ?_⟩
  funext a
  apply Fin.ext
  fin_cases a
  · show r + 1 * 0 = (x 0).val; omega
  · show c + 1 * ((x 1).val - c) = (x 1).val; omega

/-- A store of sixteen columns of the first half. -/
theorem stL {m m' : MR .vmem S64x256 .f32} (hm : m = m') {r c b a' : ℕ} (ha : a' = c + 16) {o : Fin 2 → ℕ} (ho : o = ![r, c])
    {hb : ∀ a, o a + S1x16.size a ≤ S64x256.size a} {v : S1x16.Idx → Elt F .f32}
    {hx : (m.access (Rect.unit (s := S64x256) o S1x16.size hb)).Stores Finset.univ}
    {hu : Finset.univ = (Finset.univ : Finset S1x16.Idx) ∨ ∀ a, (Rect.unit (s := S64x256) o S1x16.size hb).stride a = 1} {S : S64x256.Idx → Elt F .f32}
    (hv : ∀ y, v y = S ((Rect.unit (s := S64x256) o S1x16.size hb).emb y)) {Q : PUnit → sProp 𝕄} :
    (partOwn d i m' (known r c b) S)
      ⊢ iprop((partOwn d i m' (known r a' b) S -∗ Q ⟨⟩) -∗ twp d i (op1 (.store m (Rect.unit (s := S64x256) o S1x16.size hb) v Finset.univ hx hu)) Q) := by
  refine st hm hv fun x hk => ?_
  subst ha
  by_cases hlt : (x 0).val = r ∧ c ≤ (x 1).val ∧ (x 1).val < c + 16
  · exact .inr (at_rect ho hlt.1 hlt.2.1 hlt.2.2)
  · left
    unfold known at hk ⊢
    omega

/-- A store of sixteen columns of the second half. -/
theorem stR {m m' : MR .vmem S64x256 .f32} (hm : m = m') {r c a b' c' : ℕ} (hc : c' = 128 + c) (ha : b' = c + 16) {o : Fin 2 → ℕ} (ho : o = ![r, c'])
    {hb : ∀ a, o a + S1x16.size a ≤ S64x256.size a} {v : S1x16.Idx → Elt F .f32}
    {hx : (m.access (Rect.unit (s := S64x256) o S1x16.size hb)).Stores Finset.univ}
    {hu : Finset.univ = (Finset.univ : Finset S1x16.Idx) ∨ ∀ a, (Rect.unit (s := S64x256) o S1x16.size hb).stride a = 1} {S : S64x256.Idx → Elt F .f32}
    (hv : ∀ y, v y = S ((Rect.unit (s := S64x256) o S1x16.size hb).emb y)) {Q : PUnit → sProp 𝕄} :
    (partOwn d i m' (known r a c) S)
      ⊢ iprop((partOwn d i m' (known r a b') S -∗ Q ⟨⟩) -∗ twp d i (op1 (.store m (Rect.unit (s := S64x256) o S1x16.size hb) v Finset.univ hx hu)) Q) := by
  refine st hm hv fun x hk => ?_
  subst ha hc
  by_cases hlt : (x 0).val = r ∧ 128 + c ≤ (x 1).val ∧ (x 1).val < 128 + c + 16
  · exact .inr (at_rect ho hlt.1 hlt.2.1 hlt.2.2)
  · left
    unfold known at hk ⊢
    omega

/-- What a trip of the row loop holds: the block's rows and the rows found, and the output slot so far. -/
def lanes (d : Dev nD) (i : grid0.Coords) (n r a b : ℕ) (X : S64x256.Idx → Elt F .f32) (E0 E1 : S64x128.Idx → Elt F .f32) : sProp 𝕄 :=
  iprop(owns (thr d i) (xS bX n) fullShare X ∗ owns (thr d i) mE0 fullShare E0 ∗ owns (thr d i) mE1 fullShare E1
    ∗ partOwn d i (xS bO n) (known r a b) (rowsOut X E0 E1))

variable {X : S64x256.Idx → Elt F .f32} {E0 E1 : S64x128.Idx → Elt F .f32} (t : T1) (r : Fin k0_t2_loop.trips)

/-- A row whose lanes are all written is the row before the next. -/
theorem row_done {n k : ℕ} : lanes d i n k 128 128 X E0 E1 ⊢ (lanes d i n (k + 1) 0 0 X E0 E1 : sProp 𝕄) := by
  unfold lanes
  iintro ⟨HX, H0, H1, HO⟩
  iframe HX H0 H1
  iapply (partOwn_weaken (A := known k 128 128)) $$ HO
  intro x hx
  have h1 : (x 1).val < 256 := (x 1).isLt
  unfold known at hx ⊢
  omega

/-- The first part of a row: its first lane groups are written. -/
theorem lanes1 {h5 : k0_chk5 (w t.val)} {h4 : k0_chk4 (w t.val)} {Q : (Σ' (v254 : BitVec 32), FVec F S16 .f32) → sProp 𝕄} :
    lanes d i t.val r.val 0 0 X E0 E1
      ⊢ iprop((lanes d i t.val r.val 16 16 X E0 E1 -∗ Q ⟨Scalar.addi 0#32 (Scalar.muli (Scf.iv 0#32 1#32 r) 1#32), k0_pay3 (fun (y : (Rect.unit (s := S64x256) (k0_off34 r) S1x16.size (k0_off34_inb r)).shape.Idx) => X ((Rect.unit (s := S64x256) (k0_off34 r) S1x16.size (k0_off34_inb r)).emb y))⟩)
          -∗ twp d i (k0_part1 i mX (Memref.isWhole_whole _) mP0 (Memref.isWhole_whole _) mP1 (Memref.isWhole_whole _) mT0 (Memref.isWhole_whole _) mT1 (Memref.isWhole_whole _) mO (Memref.isWhole_whole _) mE0 (Memref.isWhole_whole _) mE1 (Memref.isWhole_whole _) cc0_scratch2 cc0_scratch3 bP0 (Memref.isWhole_whole _) cc0_scoped1 bP1 (Memref.isWhole_whole _) cc0_scoped3 bX (Memref.isWhole_whole _) cc0_scoped5 bO (Memref.isWhole_whole _) cc0_scoped7 (w t.val) (w t.val) h5 h4 0#32 1#32 r) Q) := by
  rw [k0_part1_eq_skeleton]
  unfold k0_part1_skel twp lanes
  simp only [wp_bind, wp_pure]
  iintro ⟨HX, H0, H1, HO⟩ Hk
  iapply (ld (m' := xS bX t.val) (xS_eq (off26 t))) $$ HX
  iintro HX
  iapply (ld (m' := mE0) rfl) $$ H0
  iintro H0
  iapply (ldAny (m' := xS bO t.val) (xS_eq (off29 t))) $$ HO
  iintro %v HO
  iapply (stL (m' := xS bO t.val) (a' := 16) (xS_eq (off29 t)) rfl (k0_off30_eq r) (payL (E1 := E1) (c := 0) (by omega) (k0_off27_eq r) (k0_off28_eq r) (k0_off30_eq r))) $$ HO
  iintro HO
  iapply (ld (m' := xS bX t.val) (xS_eq (off31 t))) $$ HX
  iintro HX
  iapply (ld (m' := mE1) rfl) $$ H1
  iintro H1
  iapply (ldAny (m' := xS bO t.val) (xS_eq (off29 t))) $$ HO
  iintro %v HO
  iapply (stR (m' := xS bO t.val) (c := 0) (b' := 16) (xS_eq (off29 t)) rfl rfl (k0_off32_eq r) (payR (E0 := E0) (c := 0) rfl (k0_off32_eq r) (k0_off33_eq r) (k0_off32_eq r))) $$ HO
  iintro HO
  iapply (ld (m' := xS bX t.val) (xS_eq (off31 t))) $$ HX
  iintro HX
  imodintro
  iapply Hk
  iframe HX H0 H1 HO

/-- The second part of a row. -/
theorem lanes2 (v254 : BitVec 32) {h5 : k0_chk5 (w t.val)} {h4 : k0_chk4 (w t.val)} {Q : PUnit → sProp 𝕄} :
    lanes d i t.val r.val 16 16 X E0 E1
      ⊢ iprop((lanes d i t.val r.val 48 32 X E0 E1 -∗ Q ⟨⟩)
          -∗ twp d i (k0_part2 i mX (Memref.isWhole_whole _) mP0 (Memref.isWhole_whole _) mP1 (Memref.isWhole_whole _) mT0 (Memref.isWhole_whole _) mT1 (Memref.isWhole_whole _) mO (Memref.isWhole_whole _) mE0 (Memref.isWhole_whole _) mE1 (Memref.isWhole_whole _) cc0_scratch2 cc0_scratch3 bP0 (Memref.isWhole_whole _) cc0_scoped1 bP1 (Memref.isWhole_whole _) cc0_scoped3 bX (Memref.isWhole_whole _) cc0_scoped5 bO (Memref.isWhole_whole _) cc0_scoped7 (w t.val) (w t.val) h5 h4 r v254 (k0_pay3 (fun (y : (Rect.unit (s := S64x256) (k0_off34 r) S1x16.size (k0_off34_inb r)).shape.Idx) => X ((Rect.unit (s := S64x256) (k0_off34 r) S1x16.size (k0_off34_inb r)).emb y)))) Q) := by
  rw [k0_part2_eq_skeleton]
  unfold k0_part2_skel twp lanes
  simp only [wp_bind, wp_pure]
  iintro ⟨HX, H0, H1, HO⟩ Hk
  iapply (ld (m' := mE0) rfl) $$ H0
  iintro H0
  iapply (ldAny (m' := xS bO t.val) (xS_eq (off29 t))) $$ HO
  iintro %v HO
  iapply (stL (m' := xS bO t.val) (a' := 32) (xS_eq (off29 t)) rfl (k0_off34_eq r) (payL (E1 := E1) (c := 16) (by omega) (k0_off34_eq r) (k0_off35_eq r) (k0_off34_eq r))) $$ HO
  iintro HO
  iapply (ld (m' := xS bX t.val) (xS_eq (off31 t))) $$ HX
  iintro HX
  iapply (ld (m' := mE1) rfl) $$ H1
  iintro H1
  iapply (ldAny (m' := xS bO t.val) (xS_eq (off29 t))) $$ HO
  iintro %v HO
  iapply (stR (m' := xS bO t.val) (c := 16) (b' := 32) (xS_eq (off29 t)) rfl rfl (k0_off36_eq r) (payR (E0 := E0) (c := 16) rfl (k0_off36_eq r) (k0_off35_eq r) (k0_off36_eq r))) $$ HO
  iintro HO
  iapply (ld (m' := xS bX t.val) (xS_eq (off31 t))) $$ HX
  iintro HX
  iapply (ld (m' := mE0) rfl) $$ H0
  iintro H0
  iapply (ldAny (m' := xS bO t.val) (xS_eq (off29 t))) $$ HO
  iintro %v HO
  iapply (stL (m' := xS bO t.val) (a' := 48) (xS_eq (off29 t)) rfl (k0_off37_eq r) (payL (E1 := E1) (c := 32) (by omega) (k0_off37_eq r) (k0_off38_eq r) (k0_off37_eq r))) $$ HO
  iintro HO
  imodintro
  iapply Hk
  iframe HX H0 H1 HO

/-- The third part of a row. -/
theorem lanes3 (v254 : BitVec 32) {h5 : k0_chk5 (w t.val)} {h4 : k0_chk4 (w t.val)} {Q : FVec F S16 .f32 → sProp 𝕄} :
    lanes d i t.val r.val 48 32 X E0 E1
      ⊢ iprop((lanes d i t.val r.val 64 48 X E0 E1 -∗ Q (k0_pay9 (fun (y : (Rect.unit (s := S64x256) (k0_off42 r) S1x16.size (k0_off42_inb r)).shape.Idx) => X ((Rect.unit (s := S64x256) (k0_off42 r) S1x16.size (k0_off42_inb r)).emb y)) (fun (y : (Rect.unit (s := S64x128) (k0_off41 r) S1x16.size (k0_off41_inb r)).shape.Idx) => E1 ((Rect.unit (s := S64x128) (k0_off41 r) S1x16.size (k0_off41_inb r)).emb y))))
          -∗ twp d i (k0_part3 i mX (Memref.isWhole_whole _) mP0 (Memref.isWhole_whole _) mP1 (Memref.isWhole_whole _) mT0 (Memref.isWhole_whole _) mT1 (Memref.isWhole_whole _) mO (Memref.isWhole_whole _) mE0 (Memref.isWhole_whole _) mE1 (Memref.isWhole_whole _) cc0_scratch2 cc0_scratch3 bP0 (Memref.isWhole_whole _) cc0_scoped1 bP1 (Memref.isWhole_whole _) cc0_scoped3 bX (Memref.isWhole_whole _) cc0_scoped5 bO (Memref.isWhole_whole _) cc0_scoped7 (w t.val) (w t.val) h5 h4 r v254) Q) := by
  rw [k0_part3_eq_skeleton]
  unfold k0_part3_skel twp lanes
  simp only [wp_bind, wp_pure]
  iintro ⟨HX, H0, H1, HO⟩ Hk
  iapply (ld (m' := xS bX t.val) (xS_eq (off31 t))) $$ HX
  iintro HX
  iapply (ld (m' := mE1) rfl) $$ H1
  iintro H1
  iapply (ldAny (m' := xS bO t.val) (xS_eq (off29 t))) $$ HO
  iintro %v HO
  iapply (stR (m' := xS bO t.val) (c := 32) (b' := 48) (xS_eq (off29 t)) rfl rfl (k0_off39_eq r) (payR (E0 := E0) (c := 32) rfl (k0_off39_eq r) (k0_off38_eq r) (k0_off39_eq r))) $$ HO
  iintro HO
  iapply (ld (m' := xS bX t.val) (xS_eq (off31 t))) $$ HX
  iintro HX
  iapply (ld (m' := mE0) rfl) $$ H0
  iintro H0
  iapply (ldAny (m' := xS bO t.val) (xS_eq (off29 t))) $$ HO
  iintro %v HO
  iapply (stL (m' := xS bO t.val) (a' := 64) (xS_eq (off29 t)) rfl (k0_off40_eq r) (payL (E1 := E1) (c := 48) (by omega) (k0_off40_eq r) (k0_off41_eq r) (k0_off40_eq r))) $$ HO
  iintro HO
  iapply (ld (m' := xS bX t.val) (xS_eq (off31 t))) $$ HX
  iintro HX
  iapply (ld (m' := mE1) rfl) $$ H1
  iintro H1
  imodintro
  iapply Hk
  iframe HX H0 H1 HO

/-- The fourth part of a row. -/
theorem lanes4 (v254 : BitVec 32) {h5 : k0_chk5 (w t.val)} {h4 : k0_chk4 (w t.val)} {Q : PUnit → sProp 𝕄} :
    lanes d i t.val r.val 64 48 X E0 E1
      ⊢ iprop((lanes d i t.val r.val 80 80 X E0 E1 -∗ Q ⟨⟩)
          -∗ twp d i (k0_part4 i mX (Memref.isWhole_whole _) mP0 (Memref.isWhole_whole _) mP1 (Memref.isWhole_whole _) mT0 (Memref.isWhole_whole _) mT1 (Memref.isWhole_whole _) mO (Memref.isWhole_whole _) mE0 (Memref.isWhole_whole _) mE1 (Memref.isWhole_whole _) cc0_scratch2 cc0_scratch3 bP0 (Memref.isWhole_whole _) cc0_scoped1 bP1 (Memref.isWhole_whole _) cc0_scoped3 bX (Memref.isWhole_whole _) cc0_scoped5 bO (Memref.isWhole_whole _) cc0_scoped7 (w t.val) (w t.val) h5 h4 r v254 (k0_pay9 (fun (y : (Rect.unit (s := S64x256) (k0_off42 r) S1x16.size (k0_off42_inb r)).shape.Idx) => X ((Rect.unit (s := S64x256) (k0_off42 r) S1x16.size (k0_off42_inb r)).emb y)) (fun (y : (Rect.unit (s := S64x128) (k0_off41 r) S1x16.size (k0_off41_inb r)).shape.Idx) => E1 ((Rect.unit (s := S64x128) (k0_off41 r) S1x16.size (k0_off41_inb r)).emb y)))) Q) := by
  rw [k0_part4_eq_skeleton]
  unfold k0_part4_skel twp lanes
  simp only [wp_bind, wp_pure]
  iintro ⟨HX, H0, H1, HO⟩ Hk
  iapply (ldAny (m' := xS bO t.val) (xS_eq (off29 t))) $$ HO
  iintro %v HO
  iapply (stR (m' := xS bO t.val) (c := 48) (b' := 64) (xS_eq (off29 t)) rfl rfl (k0_off42_eq r) (payR (E0 := E0) (c := 48) rfl (k0_off42_eq r) (k0_off41_eq r) (k0_off42_eq r))) $$ HO
  iintro HO
  iapply (ld (m' := xS bX t.val) (xS_eq (off31 t))) $$ HX
  iintro HX
  iapply (ld (m' := mE0) rfl) $$ H0
  iintro H0
  iapply (ldAny (m' := xS bO t.val) (xS_eq (off29 t))) $$ HO
  iintro %v HO
  iapply (stL (m' := xS bO t.val) (a' := 80) (xS_eq (off29 t)) rfl (k0_off43_eq r) (payL (E1 := E1) (c := 64) (by omega) (k0_off43_eq r) (k0_off44_eq r) (k0_off43_eq r))) $$ HO
  iintro HO
  iapply (ld (m' := xS bX t.val) (xS_eq (off31 t))) $$ HX
  iintro HX
  iapply (ld (m' := mE1) rfl) $$ H1
  iintro H1
  iapply (ldAny (m' := xS bO t.val) (xS_eq (off29 t))) $$ HO
  iintro %v HO
  iapply (stR (m' := xS bO t.val) (c := 64) (b' := 80) (xS_eq (off29 t)) rfl rfl (k0_off45_eq r) (payR (E0 := E0) (c := 64) rfl (k0_off45_eq r) (k0_off44_eq r) (k0_off45_eq r))) $$ HO
  iintro HO
  imodintro
  iapply Hk
  iframe HX H0 H1 HO

/-- The fifth part of a row. -/
theorem lanes5 (v254 : BitVec 32) {h5 : k0_chk5 (w t.val)} {h4 : k0_chk4 (w t.val)} {Q : FVec F S16 .f32 → sProp 𝕄} :
    lanes d i t.val r.val 80 80 X E0 E1
      ⊢ iprop((lanes d i t.val r.val 96 96 X E0 E1 -∗ Q (k0_pay15 (fun (y : (Rect.unit (s := S64x256) (k0_off49 r) S1x16.size (k0_off49_inb r)).shape.Idx) => X ((Rect.unit (s := S64x256) (k0_off49 r) S1x16.size (k0_off49_inb r)).emb y)) (fun (y : (Rect.unit (s := S64x128) (k0_off50 r) S1x16.size (k0_off50_inb r)).shape.Idx) => E0 ((Rect.unit (s := S64x128) (k0_off50 r) S1x16.size (k0_off50_inb r)).emb y))))
          -∗ twp d i (k0_part5 i mX (Memref.isWhole_whole _) mP0 (Memref.isWhole_whole _) mP1 (Memref.isWhole_whole _) mT0 (Memref.isWhole_whole _) mT1 (Memref.isWhole_whole _) mO (Memref.isWhole_whole _) mE0 (Memref.isWhole_whole _) mE1 (Memref.isWhole_whole _) cc0_scratch2 cc0_scratch3 bP0 (Memref.isWhole_whole _) cc0_scoped1 bP1 (Memref.isWhole_whole _) cc0_scoped3 bX (Memref.isWhole_whole _) cc0_scoped5 bO (Memref.isWhole_whole _) cc0_scoped7 (w t.val) (w t.val) h5 h4 r v254) Q) := by
  rw [k0_part5_eq_skeleton]
  unfold k0_part5_skel twp lanes
  simp only [wp_bind, wp_pure]
  iintro ⟨HX, H0, H1, HO⟩ Hk
  iapply (ld (m' := xS bX t.val) (xS_eq (off31 t))) $$ HX
  iintro HX
  iapply (ld (m' := mE0) rfl) $$ H0
  iintro H0
  iapply (ldAny (m' := xS bO t.val) (xS_eq (off29 t))) $$ HO
  iintro %v HO
  iapply (stL (m' := xS bO t.val) (a' := 96) (xS_eq (off29 t)) rfl (k0_off46_eq r) (payL (E1 := E1) (c := 80) (by omega) (k0_off46_eq r) (k0_off47_eq r) (k0_off46_eq r))) $$ HO
  iintro HO
  iapply (ld (m' := xS bX t.val) (xS_eq (off31 t))) $$ HX
  iintro HX
  iapply (ld (m' := mE1) rfl) $$ H1
  iintro H1
  iapply (ldAny (m' := xS bO t.val) (xS_eq (off29 t))) $$ HO
  iintro %v HO
  iapply (stR (m' := xS bO t.val) (c := 80) (b' := 96) (xS_eq (off29 t)) rfl rfl (k0_off48_eq r) (payR (E0 := E0) (c := 80) rfl (k0_off48_eq r) (k0_off47_eq r) (k0_off48_eq r))) $$ HO
  iintro HO
  iapply (ld (m' := xS bX t.val) (xS_eq (off31 t))) $$ HX
  iintro HX
  iapply (ld (m' := mE0) rfl) $$ H0
  iintro H0
  imodintro
  iapply Hk
  iframe HX H0 H1 HO

/-- The last part of a row: all its lanes are written. -/
theorem lanes6 (v254 : BitVec 32) {h5 : k0_chk5 (w t.val)} {h4 : k0_chk4 (w t.val)} {Q : FVec F S16 .f32 → sProp 𝕄} :
    lanes d i t.val r.val 96 96 X E0 E1
      ⊢ iprop((lanes d i t.val r.val 128 112 X E0 E1 -∗ Q (k0_pay19 (fun (y : (Rect.unit (s := S64x256) (k0_off54 r) S1x16.size (k0_off54_inb r)).shape.Idx) => X ((Rect.unit (s := S64x256) (k0_off54 r) S1x16.size (k0_off54_inb r)).emb y))))
          -∗ twp d i (k0_part6 i mX (Memref.isWhole_whole _) mP0 (Memref.isWhole_whole _) mP1 (Memref.isWhole_whole _) mT0 (Memref.isWhole_whole _) mT1 (Memref.isWhole_whole _) mO (Memref.isWhole_whole _) mE0 (Memref.isWhole_whole _) mE1 (Memref.isWhole_whole _) cc0_scratch2 cc0_scratch3 bP0 (Memref.isWhole_whole _) cc0_scoped1 bP1 (Memref.isWhole_whole _) cc0_scoped3 bX (Memref.isWhole_whole _) cc0_scoped5 bO (Memref.isWhole_whole _) cc0_scoped7 (w t.val) (w t.val) h5 h4 r v254 (k0_pay15 (fun (y : (Rect.unit (s := S64x256) (k0_off49 r) S1x16.size (k0_off49_inb r)).shape.Idx) => X ((Rect.unit (s := S64x256) (k0_off49 r) S1x16.size (k0_off49_inb r)).emb y)) (fun (y : (Rect.unit (s := S64x128) (k0_off50 r) S1x16.size (k0_off50_inb r)).shape.Idx) => E0 ((Rect.unit (s := S64x128) (k0_off50 r) S1x16.size (k0_off50_inb r)).emb y)))) Q) := by
  rw [k0_part6_eq_skeleton]
  unfold k0_part6_skel twp lanes
  simp only [wp_bind, wp_pure]
  iintro ⟨HX, H0, H1, HO⟩ Hk
  iapply (ldAny (m' := xS bO t.val) (xS_eq (off29 t))) $$ HO
  iintro %v HO
  iapply (stL (m' := xS bO t.val) (a' := 112) (xS_eq (off29 t)) rfl (k0_off49_eq r) (payL (E1 := E1) (c := 96) (by omega) (k0_off49_eq r) (k0_off50_eq r) (k0_off49_eq r))) $$ HO
  iintro HO
  iapply (ld (m' := xS bX t.val) (xS_eq (off31 t))) $$ HX
  iintro HX
  iapply (ld (m' := mE1) rfl) $$ H1
  iintro H1
  iapply (ldAny (m' := xS bO t.val) (xS_eq (off29 t))) $$ HO
  iintro %v HO
  iapply (stR (m' := xS bO t.val) (c := 96) (b' := 112) (xS_eq (off29 t)) rfl rfl (k0_off51_eq r) (payR (E0 := E0) (c := 96) rfl (k0_off51_eq r) (k0_off50_eq r) (k0_off51_eq r))) $$ HO
  iintro HO
  iapply (ld (m' := xS bX t.val) (xS_eq (off31 t))) $$ HX
  iintro HX
  iapply (ld (m' := mE0) rfl) $$ H0
  iintro H0
  iapply (ldAny (m' := xS bO t.val) (xS_eq (off29 t))) $$ HO
  iintro %v HO
  iapply (stL (m' := xS bO t.val) (a' := 128) (xS_eq (off29 t)) rfl (k0_off52_eq r) (payL (E1 := E1) (c := 112) (by omega) (k0_off52_eq r) (k0_off53_eq r) (k0_off52_eq r))) $$ HO
  iintro HO
  iapply (ld (m' := xS bX t.val) (xS_eq (off31 t))) $$ HX
  iintro HX
  imodintro
  iapply Hk
  iframe HX H0 H1 HO

/-- A trip of the row loop does its row. -/
theorem row_step {h1 : k0_chk1 i t (w (t.val + 1)) (w t.val) (w (t.val + 1)) (w t.val) (w (t.val + 1)) (w t.val) (w t.val) (w (t.val - 1)) (w t.val)}
    {h5 : k0_chk5 (w t.val)} {h4 : k0_chk4 (w t.val)} {h3 : k0_chk3 (w t.val)} {b88 b89 : BitVec 1} {b90 b95 b100 : BitVec 32}
    {Q : Unit → sProp 𝕄} :
    lanes d i t.val r.val 0 0 X E0 E1
      ⊢ iprop((lanes d i t.val (r.val + 1) 0 0 X E0 E1 -∗ Q ⟨⟩)
          -∗ twp d i (k0_t2_body i mX (Memref.isWhole_whole _) mP0 (Memref.isWhole_whole _) mP1 (Memref.isWhole_whole _) mT0 (Memref.isWhole_whole _) mT1 (Memref.isWhole_whole _) mO (Memref.isWhole_whole _) mE0 (Memref.isWhole_whole _) mE1 (Memref.isWhole_whole _) cc0_scratch2 cc0_scratch3 bP0 (Memref.isWhole_whole _) cc0_scoped1 bP1 (Memref.isWhole_whole _) cc0_scoped3 bX (Memref.isWhole_whole _) cc0_scoped5 bO (Memref.isWhole_whole _) cc0_scoped7 t (w (t.val + 1)) (w t.val) (w (t.val + 1)) (w t.val) (w (t.val + 1)) (w t.val) (w t.val) (w (t.val - 1)) (w t.val) h5 h4 h3 h1 b88 b89 b90 b95 b100 r ⟨⟩) Q) := by
  have hd := row_done (d := d) (i := i) (n := t.val) (k := r.val) (X := X) (E0 := E0) (E1 := E1)
  unfold lanes at hd
  unfold k0_t2_body twp
  simp only [wp_bind, wp_pure]
  iintro H Hk
  iapply (lanes1 t r) $$ H
  iintro H
  iapply (lanes2 t r _) $$ H
  iintro H
  iapply (lanes3 t r _) $$ H
  iintro H
  iapply (lanes4 t r _) $$ H
  iintro H
  iapply (lanes5 t r _) $$ H
  iintro H
  iapply (lanes6 t r _) $$ H
  iintro H
  unfold lanes
  icases H with ⟨HX, H0, H1, HO⟩
  iapply (ld (m' := mE1) rfl) $$ H1
  iintro H1
  iapply (ldAny (m' := xS bO t.val) (xS_eq (off29 t))) $$ HO
  iintro %v HO
  iapply (stR (m' := xS bO t.val) (c := 112) (b' := 128) (xS_eq (off29 t)) rfl rfl (k0_off54_eq r) (payR (E0 := E0) (c := 112) rfl (k0_off54_eq r) (k0_off53_eq r) (k0_off54_eq r))) $$ HO
  iintro HO
  imodintro
  iapply Hk
  iapply hd
  iframe HX H0 H1 HO

end Cert.Proof.Enc

end
-- ==== Proof.Streams.lean ====
/-
  What the kernel reads and computes, block by block, and its streams: the two lists, the rows, and the result.
-/
module

public import proofs.«01_k».proof.Proof.Rows

@[expose] public section

noncomputable section

namespace Cert.Proof.Enc

open Cert.KernelIdeal Cert.KernelIdeal.Gen
open Cert.Proof.Words
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- What the kernel reads: the two lists of positions, the rows, and the two tables; every position names a row. -/
structure Ins (F : FTy → Type) where
  p0 : (mP0).view.ty.Contents (Elt F)
  p1 : (mP1).view.ty.Contents (Elt F)
  x : (mX).view.ty.Contents (Elt F)
  t0 : (mT0).view.ty.Contents (Elt F)
  t1 : (mT1).view.ty.Contents (Elt F)
  h0 : ∀ j : S4096x64.Idx, BitVec.toNat (p0 j) < 50
  h1 : ∀ j : S4096x64.Idx, BitVec.toNat (p1 j) < 50

/-- A table, as the indexed copy names it. -/
abbrev tab (m : MR .hbm S50x128 .f32) : MR .hbm S50x128 .f32 :=
  m.slice (Rect.unit (s := S50x128) ![0, 0] S50x128.size inb_S50x128_S50x128_0_0) (fun _ => rfl)

namespace Ins

variable (A : Ins F) (i : grid0.Coords) (n : ℕ)

/-- Block `n` of each list, -/
def l0 : S1x64.Idx → Elt F .i32 := (rowL mP0 i n).view.read (Elt F) A.p0
/-- The second list's block at a chunk. -/
def l1 : S1x64.Idx → Elt F .i32 := (rowL mP1 i n).view.read (Elt F) A.p1
/-- and of the rows. -/
def row : S64x256.Idx → Elt F .f32 := (rowX mX i n).view.read (Elt F) A.x

/-- Each index of the first list names a row of its table, -/
theorem l0_lt (x : S64.Idx) : BitVec.toNat (A.l0 i n (lstIdx x)) < S50x128.size gathers_S50x128_S64x128.axis := A.h0 _
/-- and each of the second list one of its. -/
theorem l1_lt (x : S64.Idx) : BitVec.toNat (A.l1 i n (lstIdx x)) < S50x128.size gathers_S50x128_S64x128.axis := A.h1 _

/-- The rows the lists name in the tables. -/
def e0 : S64x128.Idx → Elt F .f32 := SparseCore.gatherPayload gathers_S50x128_S64x128 ((tab mT0).view.read (Elt F) A.t0)
  (SparseCore.rows (fun x => A.l0 i n (lstIdx x)) rfl (A.l0_lt i n))
/-- The rows of the second table that a chunk names. -/
def e1 : S64x128.Idx → Elt F .f32 := SparseCore.gatherPayload gathers_S50x128_S64x128 ((tab mT1).view.read (Elt F) A.t1)
  (SparseCore.rows (fun x => A.l1 i n (lstIdx x)) rfl (A.l1_lt i n))

variable [FloatOps F]

/-- Block `n` of the result. -/
def out : S64x256.Idx → Elt F .f32 := rowsOut (A.row i n) (A.e0 i n) (A.e1 i n)

end Ins

/-- The share of an array that goes with the slot of block `n`. -/
def half (q : PosShare TreeShare) (n : ℕ) : PosShare TreeShare := pieceOf q 2 (by decide) ⟨n % 2, Nat.mod_lt _ (by decide)⟩

/-- Two chunks on, the half of the share is the same. -/
theorem half_two (q : PosShare TreeShare) (n : ℕ) : half q (n + 2) = half q n := by
  unfold half
  simp only [Nat.add_mod_right]

variable [FloatOps F]

variable (A : Ins F) (d : Dev nD) (i : grid0.Coords) (q : PosShare TreeShare)

/-- The shares of the arrays the streams read. -/
def s0 (n : ℕ) : sProp 𝕄 := iprop((mP0).view.loc (thr d i) ↦{half q n} A.p0)
/-- The half share of the second list that a chunk's copy reads with, -/
def s1 (n : ℕ) : sProp 𝕄 := iprop((mP1).view.loc (thr d i) ↦{half q n} A.p1)
/-- and of `x`. -/
def sX (n : ℕ) : sProp 𝕄 := iprop((mX).view.loc (thr d i) ↦{half q n} A.x)

/-- The list streams' slots: free, asked for, there. -/
def fr0 (n : ℕ) : sProp 𝕄 := rFree d i (lS bP0) (sS cc0_scoped1) (s0 A d i q) n
/-- The second list's slot, free for chunk `n`, -/
def fr1 (n : ℕ) : sProp 𝕄 := rFree d i (lS bP1) (sS cc0_scoped3) (s1 A d i q) n
/-- and the slot of `x`. -/
def frX (n : ℕ) : sProp 𝕄 := rFree d i (xS bX) (sS cc0_scoped5) (sX A d i q) n
/-- The first list's block of chunk `n` on its way, -/
def ask0 (n : ℕ) : sProp 𝕄 := rAsk d i (lS bP0) (sS cc0_scoped1) (s0 A d i q) (A.l0 i) n
/-- the second list's -/
def ask1 (n : ℕ) : sProp 𝕄 := rAsk d i (lS bP1) (sS cc0_scoped3) (s1 A d i q) (A.l1 i) n
/-- and that of `x`. -/
def askX (n : ℕ) : sProp 𝕄 := rAsk d i (xS bX) (sS cc0_scoped5) (sX A d i q) (A.row i) n
/-- The first list's block of chunk `n` in its slot, -/
def got0 (n : ℕ) : sProp 𝕄 := rGot d i (lS bP0) (sS cc0_scoped1) (s0 A d i q) (A.l0 i) n
/-- the second list's -/
def got1 (n : ℕ) : sProp 𝕄 := rGot d i (lS bP1) (sS cc0_scoped3) (s1 A d i q) (A.l1 i) n
/-- and that of `x`. -/
def gotX (n : ℕ) : sProp 𝕄 := rGot d i (xS bX) (sS cc0_scoped5) (sX A d i q) (A.row i) n

/-- The tables' shares. -/
def tabs : sProp 𝕄 := iprop(((tab mT0).view.loc (thr d i) ↦{q} A.t0) ∗ ((tab mT1).view.loc (thr d i) ↦{q} A.t1))

/-- The output stream: a slot with nothing in flight, -/
def frO (n : ℕ) : sProp 𝕄 := iprop(∃ Y, owns (thr d i) (xS bO n) fullShare Y ∗ z0 d i (sS cc0_scoped7 n))
/-- and a slot whose block is on the way out. -/
def flO (n : ℕ) : sProp 𝕄 :=
  Fl d i (sS cc0_scoped7 n) (rowX mO i n).view.dmaCredit iprop(owns (thr d i) (rowX mO i n) fullShare (A.out i n) ∗ owns (thr d i) (xS bO n) fullShare (A.out i n))

/-- The rows found, before they are. -/
def frE : sProp 𝕄 := iprop((∃ Y, owns (thr d i) mE0 fullShare Y) ∗ (∃ Y, owns (thr d i) mE1 fullShare Y)
  ∗ z0 d i cc0_scratch2.sem ∗ z0 d i cc0_scratch3.sem)

variable {A d i q}

/-- A used slot of the first list is free for the chunk two on, -/
theorem fr0_two {n : ℕ} : got0 A d i q n ⊢ fr0 A d i q (n + 2) :=
  rFree_of_rGot (lS_two _ n) (sS_two _ n) (by unfold s0; rw [half_two])
/-- so is one of the second list -/
theorem fr1_two {n : ℕ} : got1 A d i q n ⊢ fr1 A d i q (n + 2) :=
  rFree_of_rGot (lS_two _ n) (sS_two _ n) (by unfold s1; rw [half_two])
/-- and one of `x`. -/
theorem frX_two {n : ℕ} : gotX A d i q n ⊢ frX A d i q (n + 2) :=
  rFree_of_rGot (xS_two _ n) (sS_two _ n) (by unfold sX; rw [half_two])

end Cert.Proof.Enc

end
-- ==== Proof.Ask.lean ====
/-
  The trip's first parts: asking for the next blocks, and waiting for the trip's own lists.
-/
module

public import proofs.«01_k».proof.Proof.Streams

@[expose] public section

noncomputable section

namespace Cert.Proof.Enc

open Cert.KernelIdeal Cert.KernelIdeal.Gen
open Cert.Proof.Words
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] {d : Dev nD} {i : grid0.Coords}
variable {A : Ins F} {q : PosShare TreeShare} (t : T1) {O : CellTallies nD τ sig (HIx 1)} {W : Waits sig (HIx 1)}

/-- The trip asks for the next block of the first list. -/
theorem trip7 {Q : (Σ' (k0_hw5 : k0_chk5 (w t.val)) (k0_hw4 : k0_chk4 (w t.val)) (k0_hw3 : k0_chk3 (w t.val)) (k0_hw2 : k0_chk2 (w t.val)) (k0_hw1 : k0_chk1 i t (w (t.val + 1)) (w t.val) (w (t.val + 1)) (w t.val) (w (t.val + 1)) (w t.val) (w t.val) (w (t.val - 1)) (w t.val)) (arg12 : BitVec 32) (v88 : BitVec 1) (v89 : BitVec 1) (v90 : BitVec 32) (v95 : BitVec 32) (v100 : BitVec 32) (v115 : BitVec 32) (v116 : BitVec 1), BitVec 1) → sProp 𝕄} :
    fr0 A d i q (t.val + 1)
      ⊢ iprop((ask0 A d i q (t.val + 1) -∗ Q ⟨chk5 t, chk4 t, chk3 t, chk2 t, chk1 i t, trip t, isFirst t, isLast t, block i t, blockBefore i t, blockAfter i t, asked i t, another i t, notEnd t⟩)
          -∗ twp d i (k0_part7 i mX (Memref.isWhole_whole _) mP0 (Memref.isWhole_whole _) mP1 (Memref.isWhole_whole _) mT0 (Memref.isWhole_whole _) mT1 (Memref.isWhole_whole _) mO (Memref.isWhole_whole _) mE0 (Memref.isWhole_whole _) mE1 (Memref.isWhole_whole _) cc0_scratch2 cc0_scratch3 bP0 (Memref.isWhole_whole _) cc0_scoped1 bP1 (Memref.isWhole_whole _) cc0_scoped3 bX (Memref.isWhole_whole _) cc0_scoped5 bO (Memref.isWhole_whole _) cc0_scoped7 (first i) 0#32 1#32 t (w (t.val + 1)) (w t.val) (w (t.val + 1)) (w t.val) (w (t.val + 1)) (w t.val) (w t.val) (w (t.val - 1)) (w t.val)) Q) := by
  unfold asked another notEnd blockAfter tripAfter blockBefore block isLast isFirst trip
  rw [k0_part7_eq_skeleton]
  unfold k0_part7_skel twp
  simp only [wp_bind, wp_pure]
  iintro HF Hk
  iapply (asm (chk5 t))
  iapply (asm (chk4 t))
  iapply (asm (chk3 t))
  iapply (asm (chk2 t))
  iapply (asm (chk1 i t))
  by_cases hlt : t.val < 127
  · rw [dif_pos ((cond1 i t).2 hlt)]
    simp only [wp_bind, wp_pure]
    unfold fr0 ask0
    iapply (rEnq (dat := A.l0 i) (sl := lS bP0) (sm := sS cc0_scoped1) (n := t.val + 1) (A' := rowL mP0 i (t.val + 1)) (fs := A.p0) (q := half q (t.val + 1)) (rowL_eq (by omega) (off7 i t hlt)) (lS_eq (off6 t)) (sS_eq (off8 t)) (by decide) rfl rfl (by omega)) $$ HF
    iintro HF
    imodintro
    iapply Hk
    iexact HF
  · rw [dif_neg (fun h => hlt ((cond1 i t).1 h))]
    simp only [wp_bind, wp_pure]
    imodintro
    iapply Hk
    unfold fr0 ask0 rAsk
    rw [if_neg (by omega)]
    iexact HF

/-- A step that asks for the next block while there is one. -/
theorem ask_if {s : Shape} {e : EltTy} {sl : ℕ → MR .vmem s e} {sm : ℕ → DmaSem sig} {H : ℕ → sProp 𝕄} {dat : ℕ → s.Idx → Elt F e}
    {c : Prop} [Decidable c] (hc : c ↔ t.val < 127) {α : Type} {p : c → TP F i PUnit} {k : PUnit → TP F i α} {Q : α → sProp 𝕄}
    (hp : ∀ h : c, t.val < 127 → ∀ Q' : PUnit → sProp 𝕄, (rFree d i sl sm H (t.val + 1) ⊢ iprop((rAsk d i sl sm H dat (t.val + 1) -∗ Q' ⟨⟩) -∗ twp d i (p h) Q'))) :
    rFree d i sl sm H (t.val + 1) ⊢ iprop((rAsk d i sl sm H dat (t.val + 1) -∗ twp d i (k ⟨⟩) Q) -∗ twp d i (if h : c then p h >>= k else k ⟨⟩) Q) := by
  by_cases h : c
  · rw [dif_pos h]
    unfold twp
    rw [wp_bind]
    exact hp h (hc.1 h) (fun a => twp d i (k a) Q)
  · rw [dif_neg h]
    unfold rAsk
    rw [if_neg (by have := lt_128 t; have := mt hc.2 h; omega)]
    iintro HF Hk
    iapply Hk
    iexact HF

/-- The trip asks for the next blocks of the second list and of the rows, and waits for its own blocks of both lists. -/
theorem trip8 {h1 : k0_chk1 i t (w (t.val + 1)) (w t.val) (w (t.val + 1)) (w t.val) (w (t.val + 1)) (w t.val) (w t.val) (w (t.val - 1)) (w t.val)} {Q : (Σ' (v125 : BitVec 32) (v135 : BitVec 32) (v156 : BitVec 32), BitVec 32) → sProp 𝕄} :
    iprop(Mw d i O ∗ fr1 A d i q (t.val + 1) ∗ frX A d i q (t.val + 1) ∗ ask0 A d i q t.val ∗ ask1 A d i q t.val ∗ Ow d i O W)
      ⊢ iprop((∀ v156, iprop(ask1 A d i q (t.val + 1) ∗ askX A d i q (t.val + 1) ∗ got0 A d i q t.val ∗ got1 A d i q t.val ∗ Ow d i O W) -∗ Q ⟨asked i t, asked i t, v156, 0#32⟩)
          -∗ twp d i (k0_part8 i mX (Memref.isWhole_whole _) mP0 (Memref.isWhole_whole _) mP1 (Memref.isWhole_whole _) mT0 (Memref.isWhole_whole _) mT1 (Memref.isWhole_whole _) mO (Memref.isWhole_whole _) mE0 (Memref.isWhole_whole _) mE1 (Memref.isWhole_whole _) cc0_scratch2 cc0_scratch3 bP0 (Memref.isWhole_whole _) cc0_scoped1 bP1 (Memref.isWhole_whole _) cc0_scoped3 bX (Memref.isWhole_whole _) cc0_scoped5 bO (Memref.isWhole_whole _) cc0_scoped7 t (w (t.val + 1)) (w t.val) (w (t.val + 1)) (w t.val) (w (t.val + 1)) (w t.val) (w t.val) (w (t.val - 1)) (w t.val) h1 (trip t) (isFirst t) (block i t) (blockBefore i t) (blockAfter i t) (another i t) (notEnd t)) Q) := by
  rw [k0_part8_eq_skeleton]
  unfold asked another notEnd blockAfter tripAfter blockBefore block
  unfold k0_part8_skel fr1 frX ask0 ask1 askX got0 got1
  iintro ⟨#HM, H1, HX, HA, HB, HO⟩ Hk
  iapply (ask_if t (dat := A.l1 i) (cond2 i t) (fun h hlt Q' => ?_)) $$ H1
  · exact rEnq (dat := A.l1 i) (sl := lS bP1) (sm := sS cc0_scoped3) (n := t.val + 1) (A' := rowL mP1 i (t.val + 1)) (fs := A.p1) (q := half q (t.val + 1)) (rowL_eq (by omega) (off10 i t hlt)) (lS_eq (off9 t)) (sS_eq (off11 t)) (by decide) rfl rfl (by omega)
  iintro H1
  beta_reduce
  iapply (ask_if t (dat := A.row i) (cond3 i t) (fun h hlt Q' => ?_)) $$ HX
  · exact rEnq (dat := A.row i) (sl := xS bX) (sm := sS cc0_scoped5) (n := t.val + 1) (A' := rowX mX i (t.val + 1)) (fs := A.x) (q := half q (t.val + 1)) (rowX_eq (by omega) (off13 i t hlt)) (xS_eq (off12 t)) (sS_eq (off14 t)) (by decide) rfl rfl (by omega)
  iintro HX
  beta_reduce
  rw [dif_pos (cond4 i t), dif_pos (cond5 i t)]
  unfold twp
  simp only [wp_bind, wp_pure]
  iapply (rWait (dat := A.l0 i) (sl := lS bP0) (sm := sS cc0_scoped1) (n := t.val) (H := s0 A d i q) (lS_eq (off15 t)) (sS_eq (off17 t)) (lt_128 t)) $$ [HA HO]
  · iframe HM HA HO
  iintro ⟨HA, HO⟩
  iapply (rWait (dat := A.l1 i) (sl := lS bP1) (sm := sS cc0_scoped3) (n := t.val) (H := s1 A d i q) (lS_eq (off18 t)) (sS_eq (off20 t)) (lt_128 t)) $$ [HB HO]
  · iframe HM HB HO
  iintro ⟨HB, HO⟩
  imodintro
  iapply Hk
  iframe H1 HX HA HB HO

end Cert.Proof.Enc

end
-- ==== Proof.Find.lean ====
/-
  The trip's middle part: its rows arrive and the rows its lists name are sent for.
-/
module

public import proofs.«01_k».proof.Proof.Streams

@[expose] public section

noncomputable section

namespace Cert.Proof.Enc

open Cert.KernelIdeal Cert.KernelIdeal.Gen
open Cert.Proof.Words
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] {d : Dev nD} {i : grid0.Coords}
variable {A : Ins F} {q : PosShare TreeShare} (t : T1) {O : CellTallies nD τ sig (HIx 1)} {W : Waits sig (HIx 1)}

/-- The second table's rows on the way, with what comes back when they are there. -/
def mid (A : Ins F) (d : Dev nD) (i : grid0.Coords) (q : PosShare TreeShare) (n : ℕ) : sProp 𝕄 :=
  iprop(Fl d i cc0_scratch3.sem (mE1).view.dmaCredit iprop(owns (thr d i) mE1 fullShare (A.e1 i n) ∗ ((tab mT1).view.loc (thr d i) ↦{q} A.t1)
      ∗ owns (thr d i) (pL (lS bP1 n)) fullShare (fun x => A.l1 i n (lstIdx x)))
    ∗ z0 d i (sS cc0_scoped3 n) ∗ s1 A d i q n)

/-- A list slot given back by the indexed copy is free. -/
theorem fr0_of_pL {n : ℕ} {L : S64.Idx → Elt F .i32} :
    iprop(owns (thr d i) (pL (lS bP0 n)) fullShare L ∗ z0 d i (sS cc0_scoped1 n) ∗ s0 A d i q n) ⊢ fr0 A d i q (n + 2) := by
  have hs : s0 A d i q (n + 2) = s0 A d i q n := by unfold s0; rw [half_two]
  unfold fr0 rFree
  rw [lS_two, sS_two, hs]
  iintro ⟨HL, Hz, Hs⟩
  ihave HL := owns_of_pL $$ HL
  icases HL with ⟨%X, HL⟩
  iexists X
  iframe HL Hz Hs

/-- A slot of the second list given back by the indexed copy is free too. -/
theorem fr1_of_pL {n : ℕ} {L : S64.Idx → Elt F .i32} :
    iprop(owns (thr d i) (pL (lS bP1 n)) fullShare L ∗ z0 d i (sS cc0_scoped3 n) ∗ s1 A d i q n) ⊢ fr1 A d i q (n + 2) := by
  have hs : s1 A d i q (n + 2) = s1 A d i q n := by unfold s1; rw [half_two]
  unfold fr1 rFree
  rw [lS_two, sS_two, hs]
  iintro ⟨HL, Hz, Hs⟩
  ihave HL := owns_of_pL $$ HL
  icases HL with ⟨%X, HL⟩
  iexists X
  iframe HL Hz Hs

/-- The trip waits for its rows, sends for the rows its lists name, and waits for the first table's. -/
theorem trip9 {h1 : k0_chk1 i t (w (t.val + 1)) (w t.val) (w (t.val + 1)) (w t.val) (w (t.val + 1)) (w t.val) (w t.val) (w (t.val - 1)) (w t.val)} {h3 : k0_chk3 (w t.val)} {h2 : k0_chk2 (w t.val)} {b12 : BitVec 32} {b88 : BitVec 1} {b90 b95 b156 c : BitVec 32} {Q : PUnit → sProp 𝕄} :
    iprop(Mw d i O ∗ askX A d i q t.val ∗ got0 A d i q t.val ∗ got1 A d i q t.val ∗ tabs A d i q ∗ frE d i ∗ Ow d i O W)
      ⊢ iprop((iprop(gotX A d i q t.val ∗ fr0 A d i q (t.val + 2) ∗ mid A d i q t.val ∗ owns (thr d i) mE0 fullShare (A.e0 i t.val)
            ∗ ((tab mT0).view.loc (thr d i) ↦{q} A.t0) ∗ z0 d i cc0_scratch2.sem ∗ Ow d i O W) -∗ Q ⟨⟩)
          -∗ twp d i (k0_part9 i mX (Memref.isWhole_whole _) mP0 (Memref.isWhole_whole _) mP1 (Memref.isWhole_whole _) mT0 (Memref.isWhole_whole _) mT1 (Memref.isWhole_whole _) mO (Memref.isWhole_whole _) mE0 (Memref.isWhole_whole _) mE1 (Memref.isWhole_whole _) cc0_scratch2 cc0_scratch3 bP0 (Memref.isWhole_whole _) cc0_scoped1 bP1 (Memref.isWhole_whole _) cc0_scoped3 bX (Memref.isWhole_whole _) cc0_scoped5 bO (Memref.isWhole_whole _) cc0_scoped7 t (w (t.val + 1)) (w t.val) (w (t.val + 1)) (w t.val) (w (t.val + 1)) (w t.val) (w t.val) (w (t.val - 1)) (w t.val) h3 h2 h1 b12 b88 b90 b95 b156 c) Q) := by
  rw [k0_part9_eq_skeleton]
  unfold k0_part9_skel twp
  rw [dif_pos (cond6 i t)]
  simp only [wp_bind, wp_pure, ite_self]
  unfold askX got0 got1 rGot tabs frE gotX mid
  iintro ⟨#HM, HX, ⟨HA, HAz, HAs⟩, ⟨HB, HBz, HBs⟩, ⟨HT0, HT1⟩, ⟨⟨%Y0, HE0⟩, ⟨%Y1, HE1⟩, Hz0, Hz1⟩, HO⟩ Hk
  iapply (rWait (dat := A.row i) (sl := xS bX) (sm := sS cc0_scoped5) (n := t.val) (H := sX A d i q) (xS_eq (off21 t)) (sS_eq (off23 t)) (lt_128 t)) $$ [HX HO]
  · iframe HM HX HO
  iintro ⟨HX, HO⟩
  ihave HA := owns_pL $$ HA
  ihave HB := owns_pL $$ HB
  iapply (gath (tbl := tab mT0) (dst := mE0) (offs' := pL (lS bP0 t.val)) (congrArg pL (lS_eq (off24 t))) (L := fun x => A.l0 i t.val (lstIdx x)) (fs := A.t0) (N := (mE0).view.dmaCredit)
    (by decide) (A.l0_lt i t.val)) $$ [HT0 HE0 HA Hz0]
  · iframe HT0 HE0 HA Hz0
  iintro HF0
  iapply (gath (tbl := tab mT1) (dst := mE1) (offs' := pL (lS bP1 t.val)) (congrArg pL (lS_eq (off25 t))) (L := fun x => A.l1 i t.val (lstIdx x)) (fs := A.t1) (N := (mE1).view.dmaCredit)
    (by decide) (A.l1_lt i t.val)) $$ [HT1 HE1 HB Hz1]
  · iframe HT1 HE1 HB Hz1
  iintro HF1
  iapply (gathWait (dst := mE0) rfl) $$ [HF0 HO]
  · iframe HM HF0 HO
  iintro ⟨⟨HE0, HT0, HA⟩, Hz0, HO⟩
  imodintro
  iapply Hk
  unfold Ins.e0 Ins.e1
  ihave HA := fr0_of_pL $$ [HA HAz HAs]
  · iframe HA HAz HAs
  iframe HX HA HF1 HBz HBs HE0 HT0 Hz0 HO

end Cert.Proof.Enc

end
-- ==== Proof.Send.lean ====
/-
  The trip's last parts: the sum, row by row, and the block sent out.
-/
module

public import proofs.«01_k».proof.Proof.Find
public import proofs.«01_k».proof.Proof.Rows

@[expose] public section

noncomputable section

namespace Cert.Proof.Enc

open Cert.KernelIdeal Cert.KernelIdeal.Gen
open Cert.Proof.Words
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] {d : Dev nD} {i : grid0.Coords}
variable {A : Ins F} {q : PosShare TreeShare} (t : T1) {O : CellTallies nD τ sig (HIx 1)} {W : Waits sig (HIx 1)}

/-- Before the first row nothing is known of the block, -/
theorem known_none : ∀ x, known 0 0 0 x → False := by
  intro x hx; unfold known at hx; omega

/-- and after the last everything is. -/
theorem known_all : ∀ x, known 64 0 0 x := by
  intro x; exact .inl (x 0).isLt

/-- The row loop: the output slot ends with the block's rows and the rows found, summed. -/
theorem rows_loop {X : S64x256.Idx → Elt F .f32} {E0 E1 : S64x128.Idx → Elt F .f32} {h1 : k0_chk1 i t (w (t.val + 1)) (w t.val) (w (t.val + 1)) (w t.val) (w (t.val + 1)) (w t.val) (w t.val) (w (t.val - 1)) (w t.val)}
    {h5 : k0_chk5 (w t.val)} {h4 : k0_chk4 (w t.val)} {h3 : k0_chk3 (w t.val)} {b88 b89 : BitVec 1} {b90 b95 b100 : BitVec 32} {Q : Unit → sProp 𝕄} :
    lanes d i t.val 0 0 0 X E0 E1
      ⊢ iprop((lanes d i t.val 64 0 0 X E0 E1 -∗ Q ⟨⟩)
          -∗ twp d i (Scf.Loop.for k0_t2_loop k0_t2_ok ⟨⟩ (k0_t2_body i mX (Memref.isWhole_whole _) mP0 (Memref.isWhole_whole _) mP1 (Memref.isWhole_whole _) mT0 (Memref.isWhole_whole _) mT1 (Memref.isWhole_whole _) mO (Memref.isWhole_whole _) mE0 (Memref.isWhole_whole _) mE1 (Memref.isWhole_whole _) cc0_scratch2 cc0_scratch3 bP0 (Memref.isWhole_whole _) cc0_scoped1 bP1 (Memref.isWhole_whole _) cc0_scoped3 bX (Memref.isWhole_whole _) cc0_scoped5 bO (Memref.isWhole_whole _) cc0_scoped7 t (w (t.val + 1)) (w t.val) (w (t.val + 1)) (w t.val) (w (t.val + 1)) (w t.val) (w t.val) (w (t.val - 1)) (w t.val) h5 h4 h3 h1 b88 b89 b90 b95 b100)) Q) := by
  have hb : ∀ (r : Fin k0_t2_loop.trips) (a : Unit), lanes d i t.val r.val 0 0 X E0 E1
      ⊢ twp d i (k0_t2_body i mX (Memref.isWhole_whole _) mP0 (Memref.isWhole_whole _) mP1 (Memref.isWhole_whole _) mT0 (Memref.isWhole_whole _) mT1 (Memref.isWhole_whole _) mO (Memref.isWhole_whole _) mE0 (Memref.isWhole_whole _) mE1 (Memref.isWhole_whole _) cc0_scratch2 cc0_scratch3 bP0 (Memref.isWhole_whole _) cc0_scoped1 bP1 (Memref.isWhole_whole _) cc0_scoped3 bX (Memref.isWhole_whole _) cc0_scoped5 bO (Memref.isWhole_whole _) cc0_scoped7 t (w (t.val + 1)) (w t.val) (w (t.val + 1)) (w t.val) (w (t.val + 1)) (w t.val) (w t.val) (w (t.val - 1)) (w t.val) h5 h4 h3 h1 b88 b89 b90 b95 b100 r a) (fun _ => lanes d i t.val (r.val + 1) 0 0 X E0 E1) := by
    intro r a
    iintro H
    iapply (row_step t r) $$ H
    iintro H
    iexact H
  have hn : k0_t2_loop.trips = 64 := by decide +kernel
  iintro H Hk
  unfold twp
  iapply (Scf.wp_for frame (wpE (defs₀ (F := F)) 𝒱₀ (thr d i) none) Set.univ k0_t2_loop.lb k0_t2_loop.ub k0_t2_loop.st k0_t2_ok _ _
    (fun k _ => lanes d i t.val k 0 0 X E0 E1) hb)
  isplitl [H]; · iexact H
  iintro %a H
  rw [show Scf.trips k0_t2_loop.lb k0_t2_loop.ub k0_t2_loop.st = 64 from hn]
  iapply Hk
  iexact H

/-- The trip waits for the second table's rows, sums, and sends its block out. -/
theorem trip10 {h1 : k0_chk1 i t (w (t.val + 1)) (w t.val) (w (t.val + 1)) (w t.val) (w (t.val + 1)) (w t.val) (w t.val) (w (t.val - 1)) (w t.val)} {h5 : k0_chk5 (w t.val)} {h4 : k0_chk4 (w t.val)} {h3 : k0_chk3 (w t.val)}
    {Q : (Σ' (v210 : BitVec 32) (v217 : BitVec 1), BitVec 1) → sProp 𝕄} :
    iprop(Mw d i O ∗ gotX A d i q t.val ∗ mid A d i q t.val ∗ owns (thr d i) mE0 fullShare (A.e0 i t.val) ∗ frO d i t.val
        ∗ (∃ Y, owns (thr d i) (rowX mO i t.val) fullShare Y) ∗ Ow d i O W)
      ⊢ iprop((∀ v217, iprop(frX A d i q (t.val + 2) ∗ fr1 A d i q (t.val + 2) ∗ owns (thr d i) mE0 fullShare (A.e0 i t.val) ∗ (∃ Y, owns (thr d i) mE1 fullShare Y)
            ∗ ((tab mT1).view.loc (thr d i) ↦{q} A.t1) ∗ z0 d i cc0_scratch3.sem ∗ flO A d i t.val ∗ Ow d i O W) -∗ Q ⟨sent i t, v217, 1#1⟩)
          -∗ twp d i (k0_part10 i mX (Memref.isWhole_whole _) mP0 (Memref.isWhole_whole _) mP1 (Memref.isWhole_whole _) mT0 (Memref.isWhole_whole _) mT1 (Memref.isWhole_whole _) mO (Memref.isWhole_whole _) mE0 (Memref.isWhole_whole _) mE1 (Memref.isWhole_whole _) cc0_scratch2 cc0_scratch3 bP0 (Memref.isWhole_whole _) cc0_scoped1 bP1 (Memref.isWhole_whole _) cc0_scoped3 bX (Memref.isWhole_whole _) cc0_scoped5 bO (Memref.isWhole_whole _) cc0_scoped7 t (w (t.val + 1)) (w t.val) (w (t.val + 1)) (w t.val) (w (t.val + 1)) (w t.val) (w t.val) (w (t.val - 1)) (w t.val) h5 h4 h3 h1 (isFirst t) (isLast t) (block i t) (blockBefore i t) (blockAfter i t)) Q) := by
  rw [k0_part10_eq_skeleton]
  unfold sent another blockAfter tripAfter blockBefore block
  unfold k0_part10_skel twp
  rw [dif_pos (cond11 i t)]
  simp only [wp_bind, wp_pure, ite_self]
  unfold mid gotX rGot frO
  iintro ⟨#HM, ⟨HX, HXz, HXs⟩, ⟨HF1, HBz, HBs⟩, HE0, ⟨%Y, HY, HYz⟩, ⟨%Z, HZ⟩, HO⟩ Hk
  iapply (gathWait (dst := mE1) rfl) $$ [HF1 HO]
  · iframe HM HF1 HO
  iintro ⟨⟨HE1, HT1, HB⟩, Hz1, HO⟩
  ihave HB := fr1_of_pL $$ [HB HBz HBs]
  · iframe HB HBz HBs
  ihave HY := partOwn_of_owns (S := A.out i t.val) $$ HY
  ihave HY := partOwn_weaken (B := known 0 0 0) known_none $$ HY
  iapply (rows_loop t (X := A.row i t.val) (E0 := A.e0 i t.val) (E1 := A.e1 i t.val)) $$ [HX HE0 HE1 HY]
  · unfold lanes Ins.out
    iframe HX HE0 HE1 HY
  unfold lanes
  iintro ⟨HX, HE0, HE1, HY⟩
  ihave HY := owns_of_partOwn known_all $$ HY
  iapply (enqO (src' := xS bO t.val) (dst' := rowX mO i t.val) (sm' := sS cc0_scoped7 t.val) (xS_eq (off55 t)) (rowX_eq (lt_128 t) (off56 i t)) (sS_eq (off57 t)) (by decide)) $$ [HY HZ HYz]
  · iframe HY HZ HYz
  iintro HY
  imodintro
  iapply Hk
  ihave HX := (frX_two (A := A) (d := d) (i := i) (q := q) (n := t.val)) $$ [HX HXz HXs]
  · unfold gotX rGot
    iframe HX HXz HXs
  unfold flO Ins.out
  iframe HX HB HE0 HT1 Hz1 HY HO
  iexists _; iexact HE1

end Cert.Proof.Enc

end
-- ==== Proof.Turn.lean ====
/-
  One trip of the pipeline: what a tile holds before and after.
-/
module

public import proofs.«01_k».proof.Proof.Ask
public import proofs.«01_k».proof.Proof.Find
public import proofs.«01_k».proof.Proof.Send

@[expose] public section

noncomputable section

namespace Cert.Proof.Enc

open Cert.KernelIdeal Cert.KernelIdeal.Gen
open Cert.Proof.Words
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The result's blocks not yet sent out, at anything, -/
def todo (d : Dev nD) (i : grid0.Coords) (k : ℕ) : sProp 𝕄 := bigSep (Finset.Ico k 128) fun n => iprop(∃ Y, owns (thr d i) (rowX mO i n) fullShare Y)
/-- and those there. -/
def done (A : Ins F) (d : Dev nD) (i : grid0.Coords) (k : ℕ) : sProp 𝕄 := bigSep (Finset.range k) fun n => owns (thr d i) (rowX mO i n) fullShare (A.out i n)

/-- The output slot not written in trip `k`, with the blocks there before it is free. -/
def prev (A : Ins F) (d : Dev nD) (i : grid0.Coords) (k : ℕ) : sProp 𝕄 :=
  iprop((if k = 0 then frO d i 1 else flO A d i (k - 1)) ∗ done A d i (k - 1))

/-- What a tile holds when trip `k` starts. -/
def inv (A : Ins F) (d : Dev nD) (i : grid0.Coords) (q : PosShare TreeShare) (O : CellTallies nD τ sig (HIx 1)) (W : Waits sig (HIx 1)) (k : ℕ) : sProp 𝕄 :=
  iprop((ask0 A d i q k ∗ fr0 A d i q (k + 1)) ∗ (ask1 A d i q k ∗ fr1 A d i q (k + 1)) ∗ (askX A d i q k ∗ frX A d i q (k + 1))
    ∗ (frO d i k ∗ prev A d i k ∗ todo d i k) ∗ frE d i ∗ tabs A d i q ∗ Ow d i O W)

variable {d : Dev nD} {i : grid0.Coords}
variable {A : Ins F} {q : PosShare TreeShare} (t : T1) {O : CellTallies nD τ sig (HIx 1)} {W : Waits sig (HIx 1)}

/-- The next chunk still to write, taken out. -/
theorem todo_step : todo d i t.val ⊢ (iprop((∃ Y, owns (thr d i) (rowX mO i t.val) fullShare Y) ∗ todo d i (t.val + 1)) : sProp 𝕄) := by
  unfold todo
  have h : Finset.Ico t.val 128 = insert t.val (Finset.Ico (t.val + 1) 128) := by
    ext x; have := lt_128 t; simp only [Finset.mem_insert, Finset.mem_Ico]; omega
  rw [h, bigSep_insert (by simp)]
  iintro H
  iexact H

/-- A chunk written joins those before it. -/
theorem done_step {n : ℕ} : iprop(owns (thr d i) (rowX mO i n) fullShare (A.out i n) ∗ done A d i n) ⊢ done A d i (n + 1) := by
  unfold done
  rw [Finset.range_add_one, bigSep_insert (by simp)]
  iintro H
  iexact H

/-- The other output slot is free once its block is there. -/
theorem wait_if {c : Prop} [Decidable c] (hc : c ↔ 0 < t.val) {α : Type} {sm : c → DmaSem sig} {srcw : c → MR .vmem S64x256 .f32} {dstw : c → MR .hbm S64x256 .f32}
    {hs : ∀ h, (srcw h).view.WordExact} {hd : ∀ h, (dstw h).view.WordExact} {k : PUnit → TP F i α} {Q : α → sProp 𝕄}
    (hm : ∀ h, 0 < t.val → sm h = sS cc0_scoped7 (t.val - 1)) (hN : ∀ h, (dstw h).view.dmaCredit = (rowX mO i (t.val - 1)).view.dmaCredit) :
    iprop(Mw d i O ∗ prev A d i t.val ∗ Ow d i O W)
      ⊢ iprop((iprop(frO d i (t.val + 1) ∗ done A d i t.val ∗ Ow d i O W) -∗ twp d i (k ⟨⟩) Q)
          -∗ twp d i (if h : c then op1 (.waitDma2 (sm h) (srcw h) (dstw h) (hs h) (hd h)) >>= k else k ⟨⟩) Q) := by
  unfold prev
  by_cases h : c
  · have h0 := hc.1 h
    rw [dif_pos h, if_neg (by omega)]
    unfold twp
    rw [wp_bind]
    iintro ⟨#HM, ⟨HF, HD⟩, HO⟩ Hk
    unfold flO
    iapply (wait (hm h h0) (hN h)) $$ [HF HO]
    · iframe HM HF HO
    iintro ⟨⟨HR, HY⟩, Hz, HO⟩
    iapply Hk
    ihave HD := done_step $$ [HR HD]
    · iframe HR HD
    have h1 : t.val - 1 + 2 = t.val + 1 := by omega
    have h2 : t.val - 1 + 1 = t.val := by omega
    rw [h2]
    iframe HD HO
    unfold frO
    rw [← h1, xS_two, sS_two]
    iexists _
    iframe HY Hz
  · have h0 : t.val = 0 := by have := mt hc.2 h; omega
    rw [dif_neg h, if_pos h0, h0]
    iintro ⟨#HM, ⟨HF, HD⟩, HO⟩ Hk
    iapply Hk
    iframe HF HD HO

/-- The semaphore of the chunk before, by the offset the program computes. -/
theorem sS_two' {v : DmaSems sig S2} {o : Fin 1 → ℕ} {hb} (h : o = sl1 (t.val + 1)) (h0 : 0 < t.val) :
    ((v.slice (Rect.unit (s := S2) o S1.size hb)).squeeze S_ squeezes_S1_S_).sem = sS v (t.val - 1) := by
  rw [show sS v (t.val - 1) = sS v (t.val + 1) by rw [← sS_two v (t.val - 1), show t.val - 1 + 2 = t.val + 1 by omega]]
  exact sS_eq h

/-- The words after a trip are those before the next. -/
theorem acc_next : (asked i t, used i t, asked i t, used i t, asked i t, used i t, sent i t, arrived i t, tripAfter t) = acc (t.val + 1) := by
  rw [asked_eq, used_eq, sent_eq, arrived_eq, tripAfter_eq]
  rfl

/-- One trip of the pipeline. -/
theorem turn {v9 : BitVec 32} :
    iprop(Mw d i O ∗ inv A d i q O W t.val)
      ⊢ twp d i (k0_t1_body i mX (Memref.isWhole_whole _) mP0 (Memref.isWhole_whole _) mP1 (Memref.isWhole_whole _) mT0 (Memref.isWhole_whole _) mT1 (Memref.isWhole_whole _) mO (Memref.isWhole_whole _) mE0 (Memref.isWhole_whole _) mE1 (Memref.isWhole_whole _) cc0_scratch2 cc0_scratch3 bP0 (Memref.isWhole_whole _) cc0_scoped1 bP1 (Memref.isWhole_whole _) cc0_scoped3 bX (Memref.isWhole_whole _) cc0_scoped5 bO (Memref.isWhole_whole _) cc0_scoped7 (first i) v9 t (acc t.val)) (fun a => iprop(⌜a = acc (t.val + 1)⌝ ∗ Mw d i O ∗ inv A d i q O W (t.val + 1))) := by
  rw [acc_trip]
  unfold k0_t1_body twp
  dsimp only
  rw [wp_bind]
  unfold inv
  iintro ⟨#HM, ⟨HA, HA'⟩, ⟨HB, HB'⟩, ⟨HX, HX'⟩, ⟨HY, HP, HT⟩, HE, HU, HO⟩
  iapply (trip7 t) $$ HA'
  iintro HA'
  dsimp only
  rw [wp_bind]
  iapply (trip8 t) $$ [HB' HX' HA HB HO]
  · iframe HM HB' HX' HA HB HO
  iintro %v156 ⟨HB', HX', HA, HB, HO⟩
  dsimp only
  rw [wp_bind]
  iapply (trip9 t) $$ [HX HA HB HE HU HO]
  · iframe HM HX HA HB HU HE HO
  iintro ⟨HX, HA, HN, HE0, HU0, Hz0, HO⟩
  rw [wp_bind]
  ihave ⟨HZ, HT⟩ := (todo_step t) $$ HT
  iapply (trip10 t) $$ [HX HN HE0 HY HZ HO]
  · iframe HM HX HN HE0 HY HZ HO
  iintro %v217 ⟨HX, HB, HE0, HE1, HU1, Hz1, HF, HO⟩
  dsimp only
  simp only [ite_self]
  iapply (wait_if (A := A) (O := O) (W := W) t (cond15 i t) ?_ ?_) $$ [HP HO]
  · exact fun h h0 => sS_two' t (off60 t h0) h0
  · exact fun h => rfl
  · iframe HM HP HO
  iintro ⟨HP, HD, HO⟩
  beta_reduce
  unfold twp
  rw [wp_pure]
  imodintro
  isplitr; · ipureintro; exact acc_next t
  isplitr; · iexact HM
  rw [show t.val + 1 + 1 = t.val + 2 from rfl]
  unfold prev frE tabs
  rw [if_neg (Nat.succ_ne_zero _), Nat.add_sub_cancel]
  iframe HA' HA HB' HB HX' HX HP HF HD HT HO Hz0 Hz1 HU0 HU1 HE1
  iexists _; iexact HE0

end Cert.Proof.Enc

end
-- ==== Proof.Tile.lean ====
/-
  A tile's run: the slots it starts with it ends with, and its blocks of the result are written.
-/
module

public import proofs.«01_k».proof.Proof.Turn

@[expose] public section

noncomputable section

namespace Cert.Proof.Enc

open Cert.KernelIdeal Cert.KernelIdeal.Gen
open Cert.Proof.Words
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The first copies' offsets: the first list's slot, -/
theorem off1 : k0_off1 = sl3 0 := by decide +kernel
/-- the lists' row, -/
theorem off2 : ∀ i : grid0.Coords, k0_off2 i = ![cb i + 0, 0] := by decide +kernel
/-- the semaphore, -/
theorem off3 : k0_off3 = sl1 0 := by decide +kernel
/-- the slot of `x` -/
theorem off4 : k0_off4 = sl3 0 := by decide +kernel
/-- and its rows. -/
theorem off5 : ∀ i : grid0.Coords, k0_off5 i = ![64 * (cb i + 0), 0] := by decide +kernel

/-- The slots and the shares a tile starts and ends with. -/
def slots (A : Ins F) (d : Dev nD) (i : grid0.Coords) (q : PosShare TreeShare) : sProp 𝕄 :=
  iprop((fr0 A d i q 0 ∗ fr0 A d i q 1) ∗ (fr1 A d i q 0 ∗ fr1 A d i q 1) ∗ (frX A d i q 0 ∗ frX A d i q 1) ∗ (frO d i 0 ∗ frO d i 1)
    ∗ frE d i ∗ tabs A d i q)

variable {d : Dev nD} {i : grid0.Coords}
variable {A : Ins F} {q : PosShare TreeShare} {O : CellTallies nD τ sig (HIx 1)} {W : Waits sig (HIx 1)}

/-- Before the trips: the first block of the first list is asked for, -/
theorem first11 {Q : (Σ' (v4 : BitVec 32), BitVec 32) → sProp 𝕄} :
    fr0 A d i q 0 ⊢ iprop((∀ v9, ask0 A d i q 0 -∗ Q ⟨first i, v9⟩) -∗ twp d i (k0_part11 i mX (Memref.isWhole_whole _) mP0 (Memref.isWhole_whole _) mP1 (Memref.isWhole_whole _) mT0 (Memref.isWhole_whole _) mT1 (Memref.isWhole_whole _) mO (Memref.isWhole_whole _) mE0 (Memref.isWhole_whole _) mE1 (Memref.isWhole_whole _) cc0_scratch2 cc0_scratch3 bP0 (Memref.isWhole_whole _) cc0_scoped1 bP1 (Memref.isWhole_whole _) cc0_scoped3 bX (Memref.isWhole_whole _) cc0_scoped5 bO (Memref.isWhole_whole _) cc0_scoped7) Q) := by
  rw [k0_part11_eq_skeleton]
  unfold k0_part11_skel first twp
  simp only [wp_bind, wp_pure]
  unfold fr0 ask0
  iintro HF Hk
  iapply (rEnq (dat := A.l0 i) (sl := lS bP0) (sm := sS cc0_scoped1) (n := 0) (A' := rowL mP0 i 0) (fs := A.p0) (q := half q 0) (rowL_eq (by omega) (off2 i)) (lS_eq off1) (sS_eq off3) (by decide) rfl rfl (by omega)) $$ HF
  iintro HF
  imodintro
  iapply Hk
  iexact HF

/-- The trips. -/
theorem trips {v9 : BitVec 32} {Q : (BitVec 32 × BitVec 32 × BitVec 32 × BitVec 32 × BitVec 32 × BitVec 32 × BitVec 32 × BitVec 32 × BitVec 32) → sProp 𝕄} :
    iprop(Mw d i O ∗ inv A d i q O W 0)
      ⊢ iprop((inv A d i q O W 128 -∗ Q (acc 128)) -∗ twp d i (Scf.Loop.for k0_t1_loop k0_t1_ok (acc 0) (k0_t1_body i mX (Memref.isWhole_whole _) mP0 (Memref.isWhole_whole _) mP1 (Memref.isWhole_whole _) mT0 (Memref.isWhole_whole _) mT1 (Memref.isWhole_whole _) mO (Memref.isWhole_whole _) mE0 (Memref.isWhole_whole _) mE1 (Memref.isWhole_whole _) cc0_scratch2 cc0_scratch3 bP0 (Memref.isWhole_whole _) cc0_scoped1 bP1 (Memref.isWhole_whole _) cc0_scoped3 bX (Memref.isWhole_whole _) cc0_scoped5 bO (Memref.isWhole_whole _) cc0_scoped7 (first i) v9)) Q) := by
  have hb : ∀ (t : Fin k0_t1_loop.trips) (a : BitVec 32 × BitVec 32 × BitVec 32 × BitVec 32 × BitVec 32 × BitVec 32 × BitVec 32 × BitVec 32 × BitVec 32),
      (iprop(⌜a = acc t.val⌝ ∗ Mw d i O ∗ inv A d i q O W t.val) : sProp 𝕄)
      ⊢ twp d i (k0_t1_body i mX (Memref.isWhole_whole _) mP0 (Memref.isWhole_whole _) mP1 (Memref.isWhole_whole _) mT0 (Memref.isWhole_whole _) mT1 (Memref.isWhole_whole _) mO (Memref.isWhole_whole _) mE0 (Memref.isWhole_whole _) mE1 (Memref.isWhole_whole _) cc0_scratch2 cc0_scratch3 bP0 (Memref.isWhole_whole _) cc0_scoped1 bP1 (Memref.isWhole_whole _) cc0_scoped3 bX (Memref.isWhole_whole _) cc0_scoped5 bO (Memref.isWhole_whole _) cc0_scoped7 (first i) v9 t a) (fun a => iprop(⌜a = acc (t.val + 1)⌝ ∗ Mw d i O ∗ inv A d i q O W (t.val + 1))) := by
    intro t a
    iintro ⟨%ha, H⟩
    subst ha
    iapply (turn t)
    iexact H
  have hn : k0_t1_loop.trips = 128 := by decide +kernel
  iintro ⟨#HM, H⟩ Hk
  unfold twp
  iapply (Scf.wp_for frame (wpE (defs₀ (F := F)) 𝒱₀ (thr d i) none) Set.univ k0_t1_loop.lb k0_t1_loop.ub k0_t1_loop.st k0_t1_ok _ _
    (fun k a => iprop(⌜a = acc k⌝ ∗ Mw d i O ∗ inv A d i q O W k)) hb)
  isplitl [H]
  · isplitr; · ipureintro; rfl
    isplitr; · iexact HM
    iexact H
  iintro %a ⟨%ha, -, H⟩
  rw [show Scf.trips k0_t1_loop.lb k0_t1_loop.ub k0_t1_loop.st = 128 from hn] at ha
  rw [show Scf.trips k0_t1_loop.lb k0_t1_loop.ub k0_t1_loop.st = 128 from hn]
  subst ha
  iapply Hk
  iexact H

/-- then those of the second list and of the rows, and the trips are made. -/
theorem first12 {v9 : BitVec 32} {Q : (Σ' (v57_7 : BitVec 32), BitVec 32) → sProp 𝕄} :
    iprop(Mw d i O ∗ ask0 A d i q 0 ∗ fr0 A d i q 1 ∗ fr1 A d i q 0 ∗ fr1 A d i q 1 ∗ frX A d i q 0 ∗ frX A d i q 1
        ∗ (frO d i 0 ∗ prev A d i 0 ∗ todo d i 0) ∗ frE d i ∗ tabs A d i q ∗ Ow d i O W)
      ⊢ iprop((inv A d i q O W 128 -∗ Q ⟨w 127, w 0⟩) -∗ twp d i (k0_part12 i mX (Memref.isWhole_whole _) mP0 (Memref.isWhole_whole _) mP1 (Memref.isWhole_whole _) mT0 (Memref.isWhole_whole _) mT1 (Memref.isWhole_whole _) mO (Memref.isWhole_whole _) mE0 (Memref.isWhole_whole _) mE1 (Memref.isWhole_whole _) cc0_scratch2 cc0_scratch3 bP0 (Memref.isWhole_whole _) cc0_scoped1 bP1 (Memref.isWhole_whole _) cc0_scoped3 bX (Memref.isWhole_whole _) cc0_scoped5 bO (Memref.isWhole_whole _) cc0_scoped7 (first i) v9) Q) := by
  have h0 : (Scalar.addi 0#32 1#32, 0#32, Scalar.addi 0#32 1#32, 0#32, Scalar.addi 0#32 1#32, 0#32, 0#32, 0#32, 0#32) = acc 0 := rfl
  rw [k0_part12_eq_skeleton]
  unfold k0_part12_skel twp
  dsimp only
  rw [h0]
  simp only [wp_bind, wp_pure]
  iintro ⟨#HM, HA, HA', HB, HB', HX, HX', HY, HE, HU, HO⟩ Hk
  unfold fr1 frX
  iapply (rEnq (dat := A.l1 i) (sl := lS bP1) (sm := sS cc0_scoped3) (n := 0) (A' := rowL mP1 i 0) (fs := A.p1) (q := half q 0) (rowL_eq (by omega) (off2 i)) (lS_eq off1) (sS_eq off3) (by decide) rfl rfl (by omega)) $$ HB
  iintro HB
  iapply (rEnq (dat := A.row i) (sl := xS bX) (sm := sS cc0_scoped5) (n := 0) (A' := rowX mX i 0) (fs := A.x) (q := half q 0) (rowX_eq (by omega) (off5 i)) (xS_eq off4) (sS_eq off3) (by decide) rfl rfl (by omega)) $$ HX
  iintro HX
  iapply (trips (A := A) (q := q) (O := O) (W := W)) $$ [HA HA' HB HB' HX HX' HY HE HU HO]
  · isplitr; · iexact HM
    unfold inv ask1 askX fr1 frX
    iframe HA HA' HB HB' HX HX' HY HE HU HO
  iintro H
  imodintro
  rw [show (acc 128).2.2.2.2.2.2.2.1 = w 127 from rfl, show (acc 128).2.2.2.2.2.2.2.2 = w 0 from rfl]
  iapply Hk
  iexact H

/-- After 128 chunks the parity is the same, -/
theorem mod_end (n : ℕ) : (n + 128) % 2 = n % 2 := by omega
/-- so are the slots, -/
theorem sl3_end (n : ℕ) : sl3 (n + 128) = sl3 n := by unfold sl3; rw [mod_end]
/-- their semaphores, -/
theorem sl1_end (n : ℕ) : sl1 (n + 128) = sl1 n := by unfold sl1; rw [mod_end]
/-- the lists' views, -/
theorem lS_end (m) (n : ℕ) : lS m (n + 128) = lS m n := lS_eq (sl3_end n)
/-- the views of 64 rows, -/
theorem xS_end (m) (n : ℕ) : xS m (n + 128) = xS m n := xS_eq (sl3_end n)
/-- the semaphores' views -/
theorem sS_end (v) (n : ℕ) : sS v (n + 128) = sS v n := sS_eq (sl1_end n)
/-- and the halves of the shares; -/
theorem half_end (n : ℕ) : half q (n + 128) = half q n := by
  unfold half
  simp only [mod_end]

/-- a slot of the first list free after the last chunk is one free at the start, -/
theorem fr0_end (n : ℕ) : fr0 A d i q (n + 128) = fr0 A d i q n := by
  have hs : s0 A d i q (n + 128) = s0 A d i q n := by unfold s0; rw [half_end]
  unfold fr0 rFree
  rw [lS_end, sS_end, hs]

/-- so is one of the second list, -/
theorem fr1_end (n : ℕ) : fr1 A d i q (n + 128) = fr1 A d i q n := by
  have hs : s1 A d i q (n + 128) = s1 A d i q n := by unfold s1; rw [half_end]
  unfold fr1 rFree
  rw [lS_end, sS_end, hs]

/-- one of `x` -/
theorem frX_end (n : ℕ) : frX A d i q (n + 128) = frX A d i q n := by
  have hs : sX A d i q (n + 128) = sX A d i q n := by unfold sX; rw [half_end]
  unfold frX rFree
  rw [xS_end, sS_end, hs]

/-- and one of the result. -/
theorem frO_end (n : ℕ) : (frO d i (n + 128) : sProp 𝕄) = frO d i n := by
  unfold frO
  rw [xS_end, sS_end]

/-- The last block of the result, arrived, leaves its slot free. -/
theorem frO_of : iprop(∃ Y, owns (thr d i) (xS bO 127) fullShare Y ∗ z0 d i (sS cc0_scoped7 127)) ⊢ (frO d i 1 : sProp 𝕄) := by
  rw [← frO_end 1, show (1 + 128) = 127 + 2 from rfl]
  unfold frO
  rw [xS_two, sS_two]

/-- A tile's run: its blocks of the result are written. -/
theorem run13 {Q : PUnit → sProp 𝕄} :
    iprop(Mw d i O ∗ slots A d i q ∗ todo d i 0 ∗ Ow d i O W)
      ⊢ iprop((iprop(slots A d i q ∗ done A d i 128 ∗ Ow d i O W) -∗ Q ⟨⟩) -∗ twp d i (cc0_run i mX (Memref.isWhole_whole _) mP0 (Memref.isWhole_whole _) mP1 (Memref.isWhole_whole _) mT0 (Memref.isWhole_whole _) mT1 (Memref.isWhole_whole _) mO (Memref.isWhole_whole _) mE0 (Memref.isWhole_whole _) mE1 (Memref.isWhole_whole _) cc0_scratch2 cc0_scratch3 bP0 (Memref.isWhole_whole _) cc0_scoped1 bP1 (Memref.isWhole_whole _) cc0_scoped3 bX (Memref.isWhole_whole _) cc0_scoped5 bO (Memref.isWhole_whole _) cc0_scoped7) Q) := by
  rw [cc0_run_eq_skeleton]
  unfold cc0_run_skel
  rw [k0_part13_eq_skeleton]
  unfold k0_part13_skel twp
  simp only [wp_bind, wp_pure]
  unfold slots
  iintro ⟨#HM, ⟨⟨HA, HA'⟩, ⟨HB, HB'⟩, ⟨HX, HX'⟩, ⟨HY, HY'⟩, HE, HU⟩, HT, HO⟩ Hk
  iapply (first11 (A := A) (q := q)) $$ HA
  iintro %v9 HA
  dsimp only
  iapply (first12 (A := A) (q := q) (O := O) (W := W)) $$ [HA HA' HB HB' HX HX' HY HY' HT HE HU HO]
  · isplitr; · iexact HM
    unfold prev
    rw [if_pos rfl]
    iframe HA HA' HB HB' HX HX' HY HY' HT HE HU HO
    unfold done
    rw [Finset.range_zero, bigSep_empty]
    iempintro
  have ha0 : ask0 A d i q 128 = fr0 A d i q 0 := by unfold ask0 rAsk; rw [if_neg (by decide)]; exact fr0_end 0
  have ha1 : ask1 A d i q 128 = fr1 A d i q 0 := by unfold ask1 rAsk; rw [if_neg (by decide)]; exact fr1_end 0
  have haX : askX A d i q 128 = frX A d i q 0 := by unfold askX rAsk; rw [if_neg (by decide)]; exact frX_end 0
  unfold inv prev
  rw [if_neg (by decide)]
  rw [ha0, ha1, haX, show 128 + 1 = 1 + 128 from rfl, fr0_end 1, fr1_end 1, frX_end 1,
    show (frO d i 128 : sProp 𝕄) = frO d i 0 from frO_end 0]
  iintro ⟨⟨HA, HA'⟩, ⟨HB, HB'⟩, ⟨HX, HX'⟩, ⟨HY, ⟨HF, HD⟩, -⟩, HE, HU, HO⟩
  dsimp only
  iapply (asm (chk7 i))
  iapply (asm chk6)
  unfold flO
  iapply (wait (sm' := sS cc0_scoped7 127) (sS_eq off63) rfl) $$ [HF HO]
  · iframe HM HF HO
  iintro ⟨⟨HR, HY'⟩, Hz, HO⟩
  imodintro
  imodintro
  iapply Hk
  ihave HD := done_step $$ [HR HD]
  · iframe HR HD
  ihave HY' := frO_of $$ [HY' Hz]
  · iexists _; iframe HY' Hz
  iframe HA HA' HB HB' HX HX' HY HY' HE HU HD HO

end Cert.Proof.Enc

end
-- ==== Proof.Slots.lean ====
/-
  A tile's buffers, semaphores and shares as the launch deals them, and as the slots its streams use.
-/
module

public import proofs.«01_k».proof.Proof.Tile

@[expose] public section

noncomputable section

namespace Cert.Proof.Enc

open Cert.KernelIdeal Cert.KernelIdeal.Gen
open Cert.Proof.Words
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The two slots of a buffer -/

/-- Two slots make a ring of list blocks, -/
theorem two0 : 2 ∣ S2x1x64.size 0 := ⟨1, rfl⟩
/-- and two a ring of 64 rows. -/
theorem two1 : 2 ∣ S2x64x256.size 0 := ⟨1, rfl⟩

/-- A slot's rectangle is one of the two parts along the first axis. -/
theorem slotL_part (n : ℕ) (h : n < 2) : Rect.unit (s := S2x1x64) (sl3 n) S1x1x64.size (slL_inb n) = Rect.part (s := S2x1x64) (a₀ := 0) two0 ⟨n, h⟩ := by
  have ht : n % 2 = n := Nat.mod_eq_of_lt h
  unfold Rect.part Rect.block
  congr 1 <;> funext a
  · match a with
    | 0 => simp [sl3, Shape.partIx, Shape.partSize, ht]
    | 1 => simp [sl3, Shape.partIx, Shape.partSize]
    | 2 => simp [sl3, Shape.partIx, Shape.partSize]
  · match a with
    | 0 => simp [Shape.partSize]
    | 1 => simp [Shape.partSize]
    | 2 => simp [Shape.partSize]

/-- A slot of 64 rows is one of the two parts of its ring. -/
theorem slotX_part (n : ℕ) (h : n < 2) : Rect.unit (s := S2x64x256) (sl3 n) S1x64x256.size (slX_inb n) = Rect.part (s := S2x64x256) (a₀ := 0) two1 ⟨n, h⟩ := by
  have ht : n % 2 = n := Nat.mod_eq_of_lt h
  unfold Rect.part Rect.block
  congr 1 <;> funext a
  · match a with
    | 0 => simp [sl3, Shape.partIx, Shape.partSize, ht]
    | 1 => simp [sl3, Shape.partIx, Shape.partSize]
    | 2 => simp [sl3, Shape.partIx, Shape.partSize]
  · match a with
    | 0 => simp [Shape.partSize]
    | 1 => simp [Shape.partSize]
    | 2 => simp [Shape.partSize]

variable {d : Dev nD} {i : grid0.Coords}

/-- A buffer's elements `I` held, at anything. -/
abbrev heldAny (ℓ : Loc nD τ sig) (I : Finset (Idx ℓ)) : sProp 𝕄 := iprop(∃ f : Buf (Elt F) ℓ, ℓ ↦[I]{fullShare} f)

/-- Two disjoint parts held are the whole held. -/
theorem heldAny_two {ℓ : Loc nD τ sig} (I : Fin 2 → Finset (Idx ℓ)) (hd : Disjoint (I 0) (I 1)) (hc : I 0 ∪ I 1 = Finset.univ) :
    (heldAny ℓ Finset.univ : sProp 𝕄) = iprop(heldAny ℓ (I 0) ∗ heldAny ℓ (I 1)) := by
  have hd' : ∀ t ∈ (Finset.univ : Finset (Fin 2)), ∀ t' ∈ (Finset.univ : Finset (Fin 2)), t ≠ t' → Disjoint (I t) (I t') := by
    intro t _ t' _ h
    fin_cases t <;> fin_cases t'
    · exact absurd rfl h
    · exact hd
    · exact hd.symm
    · exact absurd rfl h
  have hc' : (Finset.univ : Finset (Fin 2)).biUnion I = Finset.univ := by
    rw [← hc, show (Finset.univ : Finset (Fin 2)) = {0, 1} by decide]
    simp
  have h1 : (heldAny ℓ Finset.univ : sProp 𝕄) ⊢ iprop(heldAny ℓ (I 0) ∗ heldAny ℓ (I 1)) := by
    iintro ⟨%f, H⟩
    ihave H' := (Entails.of_eq (show (ℓ ↦[Finset.univ]{fullShare} f : sProp 𝕄) = iprop((ℓ ↦[I 0]{fullShare} f) ∗ (ℓ ↦[I 1]{fullShare} f)) by
      rw [← hc', pointsTo_biUnion Finset.univ (ℓ := ℓ) I hd']; exact bigSep_fin_two _)) $$ H
    icases H' with ⟨H0, H1⟩
    isplitl [H0]
    · iexists f; iexact H0
    · iexists f; iexact H1
  have h2 : iprop(heldAny ℓ (I 0) ∗ heldAny ℓ (I 1)) ⊢ (heldAny ℓ Finset.univ : sProp 𝕄) := by
    iintro ⟨⟨%f, H0⟩, ⟨%g, H1⟩⟩
    ihave H' := ((show iprop((ℓ ↦[I 0]{fullShare} f) ∗ (ℓ ↦[I 1]{fullShare} g)) ⊢ bigSep Finset.univ (fun t => (ℓ ↦[I t]{fullShare} (![f, g] t) : sProp 𝕄)) from
      Entails.of_eq (bigSep_fin_two (fun t => (ℓ ↦[I t]{fullShare} (![f, g] t) : sProp 𝕄))).symm).trans
      (pointsTo_biUnion_join (ℓ := ℓ) (q := fullShare) (Val := Elt F) Finset.univ I ![f, g] f hd')) $$ [H0 H1]
    · isplitl [H0]
      · iexact H0
      · iexact H1
    icases H' with ⟨%g, -, Hg⟩
    rw [hc']
    iexists g; iexact Hg
  exact BI.equiv_iff.mp ⟨h1, h2⟩

/-- Owning a memref at anything is holding its elements at anything. -/
theorem owns_any {sp : Space} {s : Shape} {e : EltTy} (m : MR sp s e) :
    (iprop(∃ X, owns (thr d i) m fullShare X) : sProp 𝕄) = heldAny (m.view.loc (thr d i)) m.view.set := by
  have h1 : (iprop(∃ X, owns (thr d i) m fullShare X) : sProp 𝕄) ⊢ heldAny (m.view.loc (thr d i)) m.view.set := by
    unfold owns
    iintro ⟨%X, %f, -, H⟩
    iexists f; iexact H
  have h2 : (heldAny (m.view.loc (thr d i)) m.view.set : sProp 𝕄) ⊢ iprop(∃ X, owns (thr d i) m fullShare X) := by
    iintro ⟨%f, H⟩
    iexists _
    iapply (owns_intro (thr d i) m fullShare f)
    iexact H
  exact BI.equiv_iff.mp ⟨h1, h2⟩

/-! The slots of the four streamed buffers cover them. -/

/-- The elements of a slot of the first list's ring, -/
theorem set_P0 (n : ℕ) (h : n < 2) : (lS bP0 n).view.set = (Rect.part (s := S2x1x64) (a₀ := 0) two0 ⟨n, h⟩).set := by
  show (((bP0).view.slice (Rect.unit (s := S2x1x64) (sl3 n) S1x1x64.size (slL_inb n))).reshape _ squeezes_S1x1x64_S1x64.numel_eq).set = _
  rw [View.set_reshape, View.set_slice]
  exact Finset.map_refl.trans (congrArg (fun r => r.set) (slotL_part n h))
/-- The first list's ring is its two slots, -/
theorem split_P0 :
    (iprop(∃ f, (thr d i).loc cc0_scoped0 ↦{fullShare} f) : sProp 𝕄) = iprop((∃ X, owns (thr d i) (lS bP0 0) fullShare X) ∗ ∃ X, owns (thr d i) (lS bP0 1) fullShare X) := by
  rw [owns_any, owns_any]
  have h0 := set_P0 0 (by decide)
  have h1 := set_P0 1 (by decide)
  have hd : Disjoint (lS bP0 0).view.set (lS bP0 1).view.set := by
    rw [h0, h1]; exact Rect.part_disjoint two0 (by decide)
  have hc : (lS bP0 0).view.set ∪ (lS bP0 1).view.set = Finset.univ := by
    rw [h0, h1, ← Rect.biUnion_part (s := S2x1x64) (a₀ := 0) two0, show (Finset.univ : Finset (Fin 2)) = {0, 1} by decide]
    simp
  exact heldAny_two (ℓ := (thr d i).loc cc0_scoped0) ![(lS bP0 0).view.set, (lS bP0 1).view.set] hd hc

/-- of a slot of the second list's ring, -/
theorem set_P1 (n : ℕ) (h : n < 2) : (lS bP1 n).view.set = (Rect.part (s := S2x1x64) (a₀ := 0) two0 ⟨n, h⟩).set := by
  show (((bP1).view.slice (Rect.unit (s := S2x1x64) (sl3 n) S1x1x64.size (slL_inb n))).reshape _ squeezes_S1x1x64_S1x64.numel_eq).set = _
  rw [View.set_reshape, View.set_slice]
  exact Finset.map_refl.trans (congrArg (fun r => r.set) (slotL_part n h))
/-- the second list's ring its two, -/
theorem split_P1 :
    (iprop(∃ f, (thr d i).loc cc0_scoped2 ↦{fullShare} f) : sProp 𝕄) = iprop((∃ X, owns (thr d i) (lS bP1 0) fullShare X) ∗ ∃ X, owns (thr d i) (lS bP1 1) fullShare X) := by
  rw [owns_any, owns_any]
  have h0 := set_P1 0 (by decide)
  have h1 := set_P1 1 (by decide)
  have hd : Disjoint (lS bP1 0).view.set (lS bP1 1).view.set := by
    rw [h0, h1]; exact Rect.part_disjoint two0 (by decide)
  have hc : (lS bP1 0).view.set ∪ (lS bP1 1).view.set = Finset.univ := by
    rw [h0, h1, ← Rect.biUnion_part (s := S2x1x64) (a₀ := 0) two0, show (Finset.univ : Finset (Fin 2)) = {0, 1} by decide]
    simp
  exact heldAny_two (ℓ := (thr d i).loc cc0_scoped2) ![(lS bP1 0).view.set, (lS bP1 1).view.set] hd hc

/-- of a slot of the ring of `x` -/
theorem set_X (n : ℕ) (h : n < 2) : (xS bX n).view.set = (Rect.part (s := S2x64x256) (a₀ := 0) two1 ⟨n, h⟩).set := by
  show (((bX).view.slice (Rect.unit (s := S2x64x256) (sl3 n) S1x64x256.size (slX_inb n))).reshape _ squeezes_S1x64x256_S64x256.numel_eq).set = _
  rw [View.set_reshape, View.set_slice]
  exact Finset.map_refl.trans (congrArg (fun r => r.set) (slotX_part n h))
/-- the ring of `x` its two, -/
theorem split_X :
    (iprop(∃ f, (thr d i).loc cc0_scoped4 ↦{fullShare} f) : sProp 𝕄) = iprop((∃ X, owns (thr d i) (xS bX 0) fullShare X) ∗ ∃ X, owns (thr d i) (xS bX 1) fullShare X) := by
  rw [owns_any, owns_any]
  have h0 := set_X 0 (by decide)
  have h1 := set_X 1 (by decide)
  have hd : Disjoint (xS bX 0).view.set (xS bX 1).view.set := by
    rw [h0, h1]; exact Rect.part_disjoint two1 (by decide)
  have hc : (xS bX 0).view.set ∪ (xS bX 1).view.set = Finset.univ := by
    rw [h0, h1, ← Rect.biUnion_part (s := S2x64x256) (a₀ := 0) two1, show (Finset.univ : Finset (Fin 2)) = {0, 1} by decide]
    simp
  exact heldAny_two (ℓ := (thr d i).loc cc0_scoped4) ![(xS bX 0).view.set, (xS bX 1).view.set] hd hc

/-- and of a slot of the result's ring. -/
theorem set_O (n : ℕ) (h : n < 2) : (xS bO n).view.set = (Rect.part (s := S2x64x256) (a₀ := 0) two1 ⟨n, h⟩).set := by
  show (((bO).view.slice (Rect.unit (s := S2x64x256) (sl3 n) S1x64x256.size (slX_inb n))).reshape _ squeezes_S1x64x256_S64x256.numel_eq).set = _
  rw [View.set_reshape, View.set_slice]
  exact Finset.map_refl.trans (congrArg (fun r => r.set) (slotX_part n h))
/-- and the result's ring its two. -/
theorem split_O :
    (iprop(∃ f, (thr d i).loc cc0_scoped6 ↦{fullShare} f) : sProp 𝕄) = iprop((∃ X, owns (thr d i) (xS bO 0) fullShare X) ∗ ∃ X, owns (thr d i) (xS bO 1) fullShare X) := by
  rw [owns_any, owns_any]
  have h0 := set_O 0 (by decide)
  have h1 := set_O 1 (by decide)
  have hd : Disjoint (xS bO 0).view.set (xS bO 1).view.set := by
    rw [h0, h1]; exact Rect.part_disjoint two1 (by decide)
  have hc : (xS bO 0).view.set ∪ (xS bO 1).view.set = Finset.univ := by
    rw [h0, h1, ← Rect.biUnion_part (s := S2x64x256) (a₀ := 0) two1, show (Finset.univ : Finset (Fin 2)) = {0, 1} by decide]
    simp
  exact heldAny_two (ℓ := (thr d i).loc cc0_scoped6) ![(xS bO 0).view.set, (xS bO 1).view.set] hd hc

/-! ## A tile's semaphores and buffers -/

open Idealize.ShloMosaic.SparseCore.Cfg (ownBufs ownSems0 ownCells ownRefs mem_ownCells)

/-- The semaphores of the task, -/
def sems : Finset (DmaSem sig) :=
  {cc0_scratch2.sem, cc0_scratch3.sem, sS cc0_scoped1 0, sS cc0_scoped1 1, sS cc0_scoped3 0, sS cc0_scoped3 1, sS cc0_scoped5 0, sS cc0_scoped5 1,
    sS cc0_scoped7 0, sS cc0_scoped7 1}
/-- and its buffers. -/
def bufs : Finset (Ref sig .scVector) := {cc0_scratch0, cc0_scratch1, cc0_scoped0, cc0_scoped2, cc0_scoped4, cc0_scoped6}

/-- A thread's DMA semaphores among all. -/
def semAt (t : Thread nD τ) : DmaSem sig ↪ GSem nD τ sig := ⟨fun s => (t, .dma s), fun a b h => SemLoc.dma.inj (Prod.mk.inj h).2⟩

/-- The tile's semaphores the task does not use, -/
def restS (d : Dev nD) (i : grid0.Coords) : sProp 𝕄 := bigSep (ownCells (thr d i) \ sems.map (semAt (thr d i))) fun g => semVal g 0
/-- and the buffers. -/
def restB (d : Dev nD) (i : grid0.Coords) : sProp 𝕄 :=
  bigSep (ownRefs (thr d i).2 \ bufs.map ⟨(thr d i).2.devRef, Proc.devRef_injective _⟩) fun b => iprop(∃ f, ((d, b) : Loc nD τ sig) ↦{fullShare} f)

/-- The semaphores of a tile live as long as its task. -/
theorem sems_scoped : ∀ s ∈ sems, (SemLoc.dma s : SemLoc sig).isScoped .scVector = true := by decide

/-- The semaphores a tile owns, one by one. -/
theorem ownSems_tile :
    (ownSems0 (thr d i) : sProp 𝕄) = iprop((z0 d i cc0_scratch2.sem ∗ z0 d i cc0_scratch3.sem ∗ z0 d i (sS cc0_scoped1 0) ∗ z0 d i (sS cc0_scoped1 1)
      ∗ z0 d i (sS cc0_scoped3 0) ∗ z0 d i (sS cc0_scoped3 1) ∗ z0 d i (sS cc0_scoped5 0) ∗ z0 d i (sS cc0_scoped5 1)
      ∗ z0 d i (sS cc0_scoped7 0) ∗ z0 d i (sS cc0_scoped7 1)) ∗ restS d i) := by
  have hs : sems.map (semAt (thr d i)) ⊆ ownCells (thr d i) := by
    intro g hg
    obtain ⟨s, hs, rfl⟩ := Finset.mem_map.mp hg
    exact mem_ownCells.mpr ⟨rfl, sems_scoped s hs⟩
  unfold SparseCore.Cfg.ownSems0 restS
  rw [SparseCore.bigSep_sdiff_split' hs, bigSep_map]
  unfold sems
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]
  rfl

/-- Any statement of the tile's buffers, one by one. -/
theorem bufs_sep (Φ : Ref sig .scVector → sProp 𝕄) :
    bigSep bufs Φ = iprop(Φ cc0_scratch0 ∗ Φ cc0_scratch1 ∗ Φ cc0_scoped0 ∗ Φ cc0_scoped2 ∗ Φ cc0_scoped4 ∗ Φ cc0_scoped6) := by
  unfold bufs
  rw [SparseCore.bigSep_insert' (by decide), SparseCore.bigSep_insert' (by decide), SparseCore.bigSep_insert' (by decide), SparseCore.bigSep_insert' (by decide),
    SparseCore.bigSep_insert' (by decide), bigSep_singleton]

/-- The buffers a tile owns, one by one. -/
theorem ownBufs_tile :
    (ownBufs (thr d i) : sProp 𝕄) = iprop(((∃ f, (thr d i).loc cc0_scratch0 ↦{fullShare} f) ∗ (∃ f, (thr d i).loc cc0_scratch1 ↦{fullShare} f)
      ∗ (∃ f, (thr d i).loc cc0_scoped0 ↦{fullShare} f) ∗ (∃ f, (thr d i).loc cc0_scoped2 ↦{fullShare} f)
      ∗ (∃ f, (thr d i).loc cc0_scoped4 ↦{fullShare} f) ∗ (∃ f, (thr d i).loc cc0_scoped6 ↦{fullShare} f)) ∗ restB d i) := by
  have hb : bufs.map ⟨(thr d i).2.devRef, Proc.devRef_injective _⟩ ⊆ ownRefs (thr d i).2 := by
    intro b hb
    obtain ⟨r, hr, rfl⟩ := Finset.mem_map.mp hb
    refine SparseCore.Cfg.mem_ownRefs_of_owner (p := (thr d i).2) ?_
    unfold bufs at hr
    simp only [Finset.mem_insert, Finset.mem_singleton] at hr
    rcases hr with rfl | rfl | rfl | rfl | rfl | rfl <;> rfl
  unfold SparseCore.Cfg.ownBufs restB
  rw [SparseCore.bigSep_sdiff_split' hb, bigSep_map]
  exact congrArg (fun x => iprop(x ∗ restB d i)) (bufs_sep fun b => iprop(∃ f, (thr d i).loc b ↦{fullShare} f))

/-! ## From what the launch deals a tile to its slots, and back -/

variable [FloatOps F] {A : Ins F} {q : PosShare TreeShare}

/-- A share of an array is the shares its two slots take. -/
theorem halves (ℓ : Loc nD τ sig) (f : Buf (Elt F) ℓ) (q : PosShare TreeShare) :
    (ℓ ↦{q} f : sProp 𝕄) = iprop((ℓ ↦{half q 0} f) ∗ (ℓ ↦{half q 1} f)) := by
  rw [pointsTo_piecesOf Finset.univ f (by decide : 0 < 2) q]
  exact bigSep_fin_two _

/-- The shares of the five arrays a tile reads. -/
def shares (A : Ins F) (d : Dev nD) (i : grid0.Coords) (q : PosShare TreeShare) : sProp 𝕄 :=
  iprop(((mX).view.loc (thr d i) ↦{q} A.x) ∗ ((mP0).view.loc (thr d i) ↦{q} A.p0) ∗ ((mP1).view.loc (thr d i) ↦{q} A.p1)
    ∗ ((mT0).view.loc (thr d i) ↦{q} A.t0) ∗ ((mT1).view.loc (thr d i) ↦{q} A.t1))

/-- With its shares, its buffers and its semaphores a tile has its slots, and the rest. -/
theorem slots_of :
    iprop(shares A d i q ∗ ownBufs (thr d i) ∗ ownSems0 (thr d i)) ⊢ (iprop(slots A d i q ∗ restB d i ∗ restS d i) : sProp 𝕄) := by
  rw [ownSems_tile, ownBufs_tile, split_P0, split_P1, split_X, split_O]
  unfold shares slots fr0 fr1 frX frO frE rFree s0 s1 sX tabs
  rw [halves ((mX).view.loc (thr d i)) A.x q, halves ((mP0).view.loc (thr d i)) A.p0 q, halves ((mP1).view.loc (thr d i)) A.p1 q]
  iintro ⟨⟨⟨HX0, HX1⟩, ⟨HP0, HP0'⟩, ⟨HP1, HP1'⟩, HT0, HT1⟩, ⟨⟨⟨%e0, HE0⟩, ⟨%e1, HE1⟩, ⟨⟨%a0, HA0⟩, ⟨%a1, HA1⟩⟩, ⟨⟨%b0, HB0⟩, ⟨%b1, HB1⟩⟩, ⟨⟨%c0, HC0⟩, ⟨%c1, HC1⟩⟩, ⟨⟨%g0, HD0⟩, ⟨%g1, HD1⟩⟩⟩, HRB⟩,
    ⟨Hz0, Hz1, Hz2, Hz3, Hz4, Hz5, Hz6, Hz7, Hz8, Hz9⟩, HRS⟩
  isplitr [HRB HRS]
  swap
  · isplitl [HRB]; · iexact HRB
    iexact HRS
  isplitl [HP0 HP0' HA0 HA1 Hz2 Hz3]
  · isplitl [HP0 HA0 Hz2]
    · iexists a0; iframe HA0 Hz2; iexact HP0
    · iexists a1; iframe HA1 Hz3; iexact HP0'
  isplitl [HP1 HP1' HB0 HB1 Hz4 Hz5]
  · isplitl [HP1 HB0 Hz4]
    · iexists b0; iframe HB0 Hz4; iexact HP1
    · iexists b1; iframe HB1 Hz5; iexact HP1'
  isplitl [HX0 HX1 HC0 HC1 Hz6 Hz7]
  · isplitl [HX0 HC0 Hz6]
    · iexists c0; iframe HC0 Hz6; iexact HX0
    · iexists c1; iframe HC1 Hz7; iexact HX1
  isplitl [HD0 HD1 Hz8 Hz9]
  · isplitl [HD0 Hz8]
    · iexists g0; iframe HD0; iexact Hz8
    · iexists g1; iframe HD1; iexact Hz9
  isplitl [HE0 HE1 Hz0 Hz1]
  · iframe Hz0 Hz1
    isplitl [HE0]
    · iexists e0
      rw [owns_whole]; iexact HE0
    · iexists e1
      rw [owns_whole]; iexact HE1
  isplitl [HT0]; · iexact HT0
  iexact HT1

/-- And its slots are its shares, its buffers and its semaphores again. -/
theorem of_slots :
    iprop(slots A d i q ∗ restB d i ∗ restS d i) ⊢ (iprop(shares A d i q ∗ ownBufs (thr d i) ∗ ownSems0 (thr d i)) : sProp 𝕄) := by
  rw [ownSems_tile, ownBufs_tile, split_P0, split_P1, split_X, split_O]
  unfold shares slots fr0 fr1 frX frO frE rFree s0 s1 sX tabs
  rw [halves ((mX).view.loc (thr d i)) A.x q, halves ((mP0).view.loc (thr d i)) A.p0 q, halves ((mP1).view.loc (thr d i)) A.p1 q]
  iintro ⟨⟨⟨⟨%a0, HA0, Hz2, HP0⟩, ⟨%a1, HA1, Hz3, HP0'⟩⟩, ⟨⟨%b0, HB0, Hz4, HP1⟩, ⟨%b1, HB1, Hz5, HP1'⟩⟩, ⟨⟨%c0, HC0, Hz6, HX0⟩, ⟨%c1, HC1, Hz7, HX1⟩⟩,
    ⟨⟨%g0, HD0, Hz8⟩, ⟨%g1, HD1, Hz9⟩⟩, ⟨⟨%e0, HE0⟩, ⟨%e1, HE1⟩, Hz0, Hz1⟩, HT0, HT1⟩, HRB, HRS⟩
  isplitl [HX0 HX1 HP0 HP0' HP1 HP1' HT0 HT1]
  · isplitl [HX0 HX1]
    · isplitl [HX0]; · iexact HX0
      iexact HX1
    isplitl [HP0 HP0']
    · isplitl [HP0]; · iexact HP0
      iexact HP0'
    isplitl [HP1 HP1']
    · isplitl [HP1]; · iexact HP1
      iexact HP1'
    isplitl [HT0]; · iexact HT0
    iexact HT1
  isplitr [Hz0 Hz1 Hz2 Hz3 Hz4 Hz5 Hz6 Hz7 Hz8 Hz9 HRS]
  · isplitr [HRB]
    swap; · iexact HRB
    isplitl [HE0]
    · iexists e0
      iapply (Entails.of_eq (owns_whole (thr d i) cc0_scratch0 fullShare e0)) $$ HE0
    isplitl [HE1]
    · iexists e1
      iapply (Entails.of_eq (owns_whole (thr d i) cc0_scratch1 fullShare e1)) $$ HE1
    isplitl [HA0 HA1]
    · isplitl [HA0]
      · iexists a0; iexact HA0
      · iexists a1; iexact HA1
    isplitl [HB0 HB1]
    · isplitl [HB0]
      · iexists b0; iexact HB0
      · iexists b1; iexact HB1
    isplitl [HC0 HC1]
    · isplitl [HC0]
      · iexists c0; iexact HC0
      · iexists c1; iexact HC1
    isplitl [HD0]
    · iexists g0; iexact HD0
    · iexists g1; iexact HD1
  isplitr [HRS]
  swap; · iexact HRS
  iframe Hz0 Hz1 Hz2 Hz3 Hz4 Hz5 Hz6 Hz7 Hz8
  iexact Hz9

end Cert.Proof.Enc

end
-- ==== Proof.Value.lean ====
/-
  The result as a whole: every row plus the two table rows its positions name, and its blocks are the tiles'.
-/
module

public import proofs.«01_k».proof.Proof.Streams

@[expose] public section

noncomputable section

namespace Cert.Proof.Enc

open Cert.KernelIdeal Cert.KernelIdeal.Gen
open Cert.Proof.Words
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## Where the elements lie -/

/-- An entry of a list's block, in the list. -/
theorem ent_eq (i : grid0.Coords) (n : ℕ) (x : S64.Idx) (j : S4096x64.Idx) (h0 : (j 0).val = (cb i + n) % 4096) (h1 : (j 1).val = (x 0).val) :
    (Rect.unit (s := S4096x64) (offL i n) S1x64.size (offL_inb i n)).emb (lstIdx x) = j := by
  have hr := Shape.rowMajor_reshapeEquiv (Shape.Squeezes.numel_eq squeezes_S1x64_S64) x
  have ha : ∀ y : S1x64.Idx, (S1x64.rowMajor y).val = (y 0).val * 64 + (y 1).val := fun y => Shape.rowMajor_val_two y
  have hb : ∀ y : S64.Idx, (S64.rowMajor y).val = (y 0).val := fun y => Shape.rowMajor_val_one y
  rw [ha, hb] at hr
  generalize hy : Shape.reshapeEquiv (Shape.Squeezes.numel_eq squeezes_S1x64_S64) x = y at hr
  have hy0 : (y 0).val < 1 := (y 0).isLt
  funext a
  refine Fin.ext ?_
  match a with
  | 0 =>
    show (cb i + n) % 4096 + 1 * (0 + 1 * (Shape.reshapeEquiv (Shape.Squeezes.numel_eq squeezes_S1x64_S64) x 0).val) = (j 0).val
    rw [hy]; omega
  | 1 =>
    show 0 + 1 * (0 + 1 * (Shape.reshapeEquiv (Shape.Squeezes.numel_eq squeezes_S1x64_S64) x 1).val) = (j 1).val
    rw [hy]; omega

/-- A row found, in its table. -/
theorem row_eq (r : Fin 64 → Fin 50) (z : S64x128.Idx) (w : S50x128.Idx) (h0 : (w 0).val = (r (z 0)).val) (h1 : (w 1).val = (z 1).val) :
    (Rect.unit (s := S50x128) ![0, 0] S50x128.size inb_S50x128_S50x128_0_0).emb (gathers_S50x128_S64x128.idx r z) = w := by
  funext a
  refine Fin.ext ?_
  match a with
  | 0 =>
    show 0 + 1 * (gathers_S50x128_S64x128.idx r z 0).val = (w 0).val
    have h := congrArg Fin.val (Shape.Gathers.idx_axis gathers_S50x128_S64x128 r z)
    have h : (gathers_S50x128_S64x128.idx r z 0).val = (r (z 0)).val := h
    rw [h]; omega
  | 1 =>
    show 0 + 1 * (gathers_S50x128_S64x128.idx r z 1).val = (w 1).val
    have h : (gathers_S50x128_S64x128.idx r z 1).val = (z 1).val := Shape.Gathers.idx_of_ne gathers_S50x128_S64x128 r z 1 (by decide)
    rw [h]; omega

namespace Ins

/-- The first list's block at a chunk, entry by entry; -/
theorem l0_at (A : Ins F) (i : grid0.Coords) (n : ℕ) (x : S64.Idx) (j : S4096x64.Idx) (h0 : (j 0).val = (cb i + n) % 4096) (h1 : (j 1).val = (x 0).val) :
    A.l0 i n (lstIdx x) = A.p0 j := by
  show A.p0 ((Rect.unit (s := S4096x64) (offL i n) S1x64.size (offL_inb i n)).emb (lstIdx x)) = A.p0 j
  rw [ent_eq i n x j h0 h1]

/-- the rows it gathers, entry by entry; -/
theorem e0_at (A : Ins F) (i : grid0.Coords) (n : ℕ) (z : S64x128.Idx) (j : S4096x64.Idx) (w : S50x128.Idx) (h0 : (j 0).val = (cb i + n) % 4096)
    (h1 : (j 1).val = (z 0).val) (hw0 : (w 0).val = BitVec.toNat (A.p0 j)) (hw1 : (w 1).val = (z 1).val) : A.e0 i n z = A.t0 w := by
  show A.t0 ((Rect.unit (s := S50x128) ![0, 0] S50x128.size inb_S50x128_S50x128_0_0).emb
    (gathers_S50x128_S64x128.idx (SparseCore.rows (fun x => A.l0 i n (lstIdx x)) rfl (A.l0_lt i n)) z)) = A.t0 w
  refine congrArg A.t0 (row_eq _ z w ?_ hw1)
  show (w 0).val = BitVec.toNat (A.l0 i n (lstIdx (S64.rowMajor.symm ((z gathers_S50x128_S64x128.axis').cast _))))
  rw [l0_at A i n _ j h0, hw0]
  rw [h1]
  have hs := congrArg Fin.val (S64.rowMajor.apply_symm_apply ((z gathers_S50x128_S64x128.axis').cast rfl))
  exact (hs.symm.trans (Shape.rowMajor_val_one _))

/-- the second list's block, entry by entry; -/
theorem l1_at (A : Ins F) (i : grid0.Coords) (n : ℕ) (x : S64.Idx) (j : S4096x64.Idx) (h0 : (j 0).val = (cb i + n) % 4096) (h1 : (j 1).val = (x 0).val) :
    A.l1 i n (lstIdx x) = A.p1 j := by
  show A.p1 ((Rect.unit (s := S4096x64) (offL i n) S1x64.size (offL_inb i n)).emb (lstIdx x)) = A.p1 j
  rw [ent_eq i n x j h0 h1]

/-- the rows it gathers, entry by entry. -/
theorem e1_at (A : Ins F) (i : grid0.Coords) (n : ℕ) (z : S64x128.Idx) (j : S4096x64.Idx) (w : S50x128.Idx) (h0 : (j 0).val = (cb i + n) % 4096)
    (h1 : (j 1).val = (z 0).val) (hw0 : (w 0).val = BitVec.toNat (A.p1 j)) (hw1 : (w 1).val = (z 1).val) : A.e1 i n z = A.t1 w := by
  show A.t1 ((Rect.unit (s := S50x128) ![0, 0] S50x128.size inb_S50x128_S50x128_0_0).emb
    (gathers_S50x128_S64x128.idx (SparseCore.rows (fun x => A.l1 i n (lstIdx x)) rfl (A.l1_lt i n)) z)) = A.t1 w
  refine congrArg A.t1 (row_eq _ z w ?_ hw1)
  show (w 0).val = BitVec.toNat (A.l1 i n (lstIdx (S64.rowMajor.symm ((z gathers_S50x128_S64x128.axis').cast _))))
  rw [l1_at A i n _ j h0, hw0]
  rw [h1]
  have hs := congrArg Fin.val (S64.rowMajor.apply_symm_apply ((z gathers_S50x128_S64x128.axis').cast rfl))
  exact (hs.symm.trans (Shape.rowMajor_val_one _))

end Ins

/-! ## The result as a whole -/

/-- The entry of the lists for a row of the result. -/
def ent (y : S262144x256.Idx) : S4096x64.Idx := fun a => match a with
  | 0 => ⟨(y 0).val / 64, by have h : (y 0).val < 262144 := (y 0).isLt; show (y 0).val / 64 < 4096; omega⟩
  | 1 => ⟨(y 0).val % 64, Nat.mod_lt _ (by decide)⟩

/-- A table's element. -/
def at2 (r c : ℕ) (hr : r < 50) (hc : c < 128) : S50x128.Idx := fun a => match a with
  | 0 => ⟨r, hr⟩
  | 1 => ⟨c, hc⟩

/-- What is added to a row: the first table's row its first position names, then the second table's row its second names. -/
def Ins.pick (A : Ins F) (y : S262144x256.Idx) : Elt F .f32 :=
  if h : (y 1).val < 128 then A.t0 (at2 (BitVec.toNat (A.p0 (ent y))) (y 1).val (A.h0 _) h)
  else A.t1 (at2 (BitVec.toNat (A.p1 (ent y))) ((y 1).val - 128) (A.h1 _) (by have h2 : (y 1).val < 256 := (y 1).isLt; omega))

variable [FloatOps F]

/-- The result: the rows plus what the positions name. -/
def Ins.sum (A : Ins F) : S262144x256.Idx → Elt F .f32 := (addf (A.x : FVec F S262144x256 .f32) A.pick : FVec F S262144x256 .f32)

/-- The row of the result where a chunk's entry lies, -/
theorem emb0 (i : grid0.Coords) (n : ℕ) (y : S64x256.Idx) : ((rX i n).emb y 0).val = 64 * ((cb i + n) % 4096) + (y 0).val :=
  show 64 * ((cb i + n) % 4096) + 1 * (y 0).val = _ by rw [Nat.one_mul]
/-- and its lane. -/
theorem emb1 (i : grid0.Coords) (n : ℕ) (y : S64x256.Idx) : ((rX i n).emb y 1).val = (y 1).val :=
  show 0 + 1 * (y 1).val = _ by omega

/-- A block of the result is what its tile computes of it. -/
theorem out_eq (A : Ins F) (i : grid0.Coords) (n : ℕ) : (fun y => A.sum ((rX i n).emb y)) = A.out i n := by
  funext y
  show FloatOps.addf (A.x ((rX i n).emb y)) (A.pick ((rX i n).emb y)) = FloatOps.addf (A.x ((rX i n).emb y)) (beside (A.e0 i n) (A.e1 i n) y)
  congr 1
  have h0 := emb0 i n y
  have h1 := emb1 i n y
  have hy : (y 0).val < 64 := (y 0).isLt
  have j0 : (ent ((rX i n).emb y) 0).val = (cb i + n) % 4096 := by
    show ((rX i n).emb y 0).val / 64 = _
    rw [h0]; omega
  have j1 : (ent ((rX i n).emb y) 1).val = (y 0).val := by
    show ((rX i n).emb y 0).val % 64 = _
    rw [h0]; omega
  unfold Ins.pick beside
  by_cases h : (y 1).val < 128
  · rw [dif_pos h, dif_pos (h1.trans_lt h)]
    exact (A.e0_at i n _ (ent ((rX i n).emb y)) _ j0 j1 rfl h1).symm
  · rw [dif_neg h, dif_neg (fun h' => h (h1 ▸ h'))]
    exact (A.e1_at i n _ (ent ((rX i n).emb y)) _ j0 j1 rfl (congrArg (· - 128) h1)).symm

end Cert.Proof.Enc

end
-- ==== Proof.Deal.lean ====
/-
  How the launch deals the arrays to the tiles and gathers them again: a share of each array read, and the blocks of the
  result.
-/
module

public import proofs.«01_k».proof.Proof.Slots
public import proofs.«01_k».proof.Proof.Value

@[expose] public section

noncomputable section

namespace Cert.Proof.Enc

open Cert.KernelIdeal Cert.KernelIdeal.Gen
open Cert.Proof.Words
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tiles -/

/-- A tile of the grid. -/
def coordsV (c : Fin (grid0.bound 0)) (s : Fin (grid0.bound 1)) : grid0.Coords :=
  fun | 0 => c | 1 => s | ⟨_ + 2, h⟩ => absurd h (Nat.not_lt.2 (Nat.le_add_left _ _))

/-- A tile's share of an array every tile reads. -/
def tileShare (c : Fin 2) (s : Fin 16) : PosShare TreeShare := pieceOf (pieceOf fullShare 2 (by decide) c) 16 (by decide) s

/-- An array held outright is its tiles' shares. -/
theorem shares_split (ℓ : Loc nD τ sig) (f : Buf (Elt F) ℓ) :
    (ℓ ↦{fullShare} f : sProp 𝕄) = bigSep Finset.univ fun c : Fin 2 => bigSep Finset.univ fun s : Fin 16 => ℓ ↦{tileShare c s} f := by
  rw [pointsTo_piecesOf Finset.univ f (by decide : 0 < 2) fullShare]
  exact bigSep_congr fun c _ => pointsTo_piecesOf Finset.univ f (by decide : 0 < 16) _

/-! ## The result's blocks -/

/-- 4096 blocks make the result. -/
theorem fourK : 4096 ∣ S262144x256.size 0 := ⟨64, rfl⟩

/-- The result's blocks by tile and by the tile's trips. -/
def byTile : Fin 2 × (Fin 16 × Fin 128) ≃ Fin 4096 :=
  ((Equiv.prodCongr (Equiv.refl _) (finProdFinEquiv (m := 16) (n := 128))).trans (finProdFinEquiv (m := 2) (n := 16 * 128))).trans (finCongr (by norm_num))

/-- The chunk that tile `s` of SparseCore `c` takes at its trip `n`. -/
theorem byTile_val (c : Fin 2) (s : Fin 16) (n : Fin 128) : (byTile (c, s, n)).val = n.val + 128 * s.val + 2048 * c.val := by
  simp [byTile, finProdFinEquiv]

/-- A chunk's rectangle is a part of the result cut into 4096. -/
theorem rX_part (c : Fin 2) (s : Fin 16) (n : Fin 128) :
    rX (coordsV c s) n.val = Rect.part (s := S262144x256) (a₀ := 0) fourK (byTile (c, s, n)) := by
  have hb := byTile_val c s n
  have hc : (cb (coordsV c s) + n.val) % 4096 = (byTile (c, s, n)).val := by
    rw [cb_lt _ n.isLt, hb]
    show 128 * s.val + 2048 * c.val + n.val = _
    omega
  unfold rX Rect.part Rect.block
  congr 1 <;> funext a
  · match a with
    | 0 =>
      show 64 * ((cb (coordsV c s) + n.val) % 4096) = _
      rw [hc]
      simp [Shape.partIx, Shape.partSize, Nat.mul_comm]
    | 1 => simp [Shape.partIx, Shape.partSize]
  · match a with
    | 0 => simp [Shape.partSize]
    | 1 => simp [Shape.partSize]

/-- The result's array on the device. -/
abbrev oLoc (d : Dev nD) : Loc nD τ sig := (SparseCore.T d).loc main_v6

/-- The result held outright is its blocks. -/
theorem out_split (d : Dev nD) (f : Buf (Elt F) (oLoc d)) :
    (oLoc d ↦{fullShare} f : sProp 𝕄) = bigSep Finset.univ fun c : Fin 2 => bigSep Finset.univ fun s : Fin 16 => bigSep Finset.univ fun n : Fin 128 =>
      oLoc d ↦[(rX (coordsV c s) n.val).set]{fullShare} f := by
  have hcov := Rect.biUnion_part (s := S262144x256) (a₀ := 0) fourK
  have hd : ∀ k ∈ (Finset.univ : Finset (Fin 4096)), ∀ k' ∈ (Finset.univ : Finset (Fin 4096)), k ≠ k' →
      Disjoint (Rect.part (s := S262144x256) (a₀ := 0) fourK k).set (Rect.part (s := S262144x256) (a₀ := 0) fourK k').set :=
    fun k _ k' _ h => Rect.part_disjoint fourK h
  have h1 : (oLoc d ↦{fullShare} f : sProp 𝕄) = bigSep Finset.univ fun k : Fin 4096 => oLoc d ↦[(Rect.part (s := S262144x256) (a₀ := 0) fourK k).set]{fullShare} f := by
    rw [← pointsTo_biUnion Finset.univ (ℓ := oLoc d) (fun k => (Rect.part (s := S262144x256) (a₀ := 0) fourK k).set) hd, hcov]
  rw [h1, bigSep_univ_equiv byTile, bigSep_univ_prod]
  refine bigSep_congr fun c _ => ?_
  rw [bigSep_univ_prod]
  refine bigSep_congr fun s _ => bigSep_congr fun n _ => ?_
  rw [rX_part]

variable [FloatOps F]

/-- The blocks by a tile's trips. -/
theorem range_fin (Φ : ℕ → sProp 𝕄) : bigSep (Finset.range 128) Φ = bigSep Finset.univ fun n : Fin 128 => Φ n.val := by
  have h : Finset.range 128 = (Finset.univ : Finset (Fin 128)).map Fin.valEmbedding := by
    ext x
    simp only [Finset.mem_range, Finset.mem_map, Finset.mem_univ, true_and, Fin.valEmbedding_apply]
    exact ⟨fun h => ⟨⟨x, h⟩, rfl⟩, fun ⟨y, h⟩ => h ▸ y.isLt⟩
  rw [h, bigSep_map]
  rfl

/-- The elements of a chunk's view are its rectangle. -/
theorem set_rowX (i : grid0.Coords) (n : ℕ) : (rowX mO i n).view.set = (rX i n).set := by
  show ((mO).view.slice (rX i n)).set = _
  rw [View.set_slice]
  exact Finset.map_refl

/-- Blocks held at anything are blocks not yet sent out, -/
theorem todo_of (d : Dev nD) (c : Fin 2) (s : Fin 16) (f : Buf (Elt F) (oLoc d)) :
    (bigSep Finset.univ fun n : Fin 128 => (oLoc d ↦[(rX (coordsV c s) n.val).set]{fullShare} f : sProp 𝕄)) ⊢ todo d (coordsV c s) 0 := by
  unfold todo
  rw [show Finset.Ico 0 128 = Finset.range 128 from (Finset.range_eq_Ico 128).symm, range_fin]
  refine bigSep_mono fun n _ => ?_
  rw [owns_any, set_rowX]
  have h : (oLoc d ↦[(rX (coordsV c s) n.val).set]{fullShare} f : sProp 𝕄) ⊢ heldAny (F := F) (oLoc d) (rX (coordsV c s) n.val).set := by
    iintro H
    iexists f
    iexact H
  exact h

/-- and blocks sent out are blocks of the result as a whole. -/
theorem of_done (A : Ins F) (d : Dev nD) (c : Fin 2) (s : Fin 16) :
    (done A d (coordsV c s) 128 : sProp 𝕄) = bigSep Finset.univ fun n : Fin 128 => (oLoc d ↦[(rX (coordsV c s) n.val).set]{fullShare} A.sum : sProp 𝕄) := by
  unfold done
  rw [range_fin]
  refine bigSep_congr fun n _ => ?_
  rw [← out_eq]
  have h := owns_slice_read (Ix := HIx 1) (Name := ℕ) (U := UU) (Lvl := ℕ) (thr d (coordsV c s)) mO fullShare (rX (coordsV c s) n.val) (fun _ => rfl) A.sum
  have hs : ((mO).view.slice (rX (coordsV c s) n.val)).set = (rX (coordsV c s) n.val).set := set_rowX _ _
  rw [hs] at h
  exact h

/-! ## What a tile takes and brings back -/

/-- A tile takes its shares and its blocks, -/
def need (A : Ins F) (d : Dev nD) (c : Fin 2) (s : Fin 16) : sProp 𝕄 :=
  iprop(shares A d (coordsV c s) (tileShare c s) ∗ todo d (coordsV c s) 0)
/-- and brings back its shares and its blocks sent out. -/
def give (A : Ins F) (d : Dev nD) (c : Fin 2) (s : Fin 16) : sProp 𝕄 :=
  iprop(shares A d (coordsV c s) (tileShare c s) ∗ done A d (coordsV c s) 128)

/-- The read shares of a tile can be handed over, -/
instance shares_storable (A : Ins F) (d : Dev nD) (i : grid0.Coords) (q : PosShare TreeShare) : BI.Storable (upEmb : UEmb _ 𝕄) (shares A d i q) := by
  unfold shares
  infer_instance
/-- a view's ownership can, -/
instance owns_storable (d : Dev nD) (i : grid0.Coords) (n : ℕ) (Y) : BI.Storable (upEmb : UEmb _ 𝕄) (owns (thr d i) (rowX mO i n) fullShare Y) := by
  unfold owns
  infer_instance
/-- the chunks still to write can, -/
instance todo_storable (d : Dev nD) (i : grid0.Coords) (k : ℕ) : BI.Storable (upEmb : UEmb _ 𝕄) (todo (F := F) d i k) := by
  unfold todo
  infer_instance
/-- those written can, -/
instance done_storable (A : Ins F) (d : Dev nD) (i : grid0.Coords) (k : ℕ) : BI.Storable (upEmb : UEmb _ 𝕄) (done A d i k) := by
  unfold done
  infer_instance
/-- all that a tile is given can, -/
instance need_storable (A : Ins F) (d : Dev nD) (c : Fin 2) (s : Fin 16) : BI.Storable (upEmb : UEmb _ 𝕄) (need A d c s) := by
  unfold need
  infer_instance
/-- and all that it gives back. -/
instance give_storable (A : Ins F) (d : Dev nD) (c : Fin 2) (s : Fin 16) : BI.Storable (upEmb : UEmb _ 𝕄) (give A d c s) := by
  unfold give
  infer_instance

/-- The five arrays read, held outright. -/
def arrays (A : Ins F) (d : Dev nD) : sProp 𝕄 :=
  iprop(((SparseCore.T d).loc main_arg0 ↦{fullShare} (A.x : Buf (Elt F) ((SparseCore.T d).loc main_arg0))) ∗ ((SparseCore.T d).loc main_v2 ↦{fullShare} (A.p0 : Buf (Elt F) ((SparseCore.T d).loc main_v2)))
    ∗ ((SparseCore.T d).loc main_v5 ↦{fullShare} (A.p1 : Buf (Elt F) ((SparseCore.T d).loc main_v5)))
    ∗ ((SparseCore.T d).loc main_arg2 ↦{fullShare} (A.t0 : Buf (Elt F) ((SparseCore.T d).loc main_arg2))) ∗ ((SparseCore.T d).loc main_arg3 ↦{fullShare} (A.t1 : Buf (Elt F) ((SparseCore.T d).loc main_arg3))))

/-- The arrays are the tiles' shares of them. -/
theorem arrays_split (A : Ins F) (d : Dev nD) :
    (arrays A d : sProp 𝕄) = bigSep Finset.univ fun c : Fin 2 => bigSep Finset.univ fun s : Fin 16 => shares A d (coordsV c s) (tileShare c s) := by
  unfold arrays shares
  rw [shares_split ((SparseCore.T d).loc main_arg0), shares_split ((SparseCore.T d).loc main_v2), shares_split ((SparseCore.T d).loc main_v5), shares_split ((SparseCore.T d).loc main_arg2),
    shares_split ((SparseCore.T d).loc main_arg3)]
  simp only [← bigSep_sep']

/-- The arrays read and the result at anything are what the tiles take, -/
theorem need_of (A : Ins F) (d : Dev nD) (f : Buf (Elt F) (oLoc d)) :
    iprop(arrays A d ∗ (oLoc d ↦{fullShare} f)) ⊢ (bigSep Finset.univ fun c : Fin 2 => bigSep Finset.univ fun s : Fin 16 => need A d c s : sProp 𝕄) := by
  unfold need
  rw [arrays_split, out_split]
  simp only [bigSep_sep']
  exact sep_mono .rfl (bigSep_mono fun c _ => bigSep_mono fun s _ => todo_of (F := F) d c s f)

/-- and what they bring back is the arrays read and the result, written. -/
theorem of_give (A : Ins F) (d : Dev nD) :
    (bigSep Finset.univ fun c : Fin 2 => bigSep Finset.univ fun s : Fin 16 => give A d c s : sProp 𝕄)
      = iprop(arrays A d ∗ (oLoc d ↦{fullShare} (A.sum : Buf (Elt F) (oLoc d)))) := by
  unfold give
  rw [arrays_split, out_split]
  simp only [bigSep_sep', of_done]

end Cert.Proof.Enc

end
-- ==== Proof.Task.lean ====
/-
  A tile's task as the launch states it, and how a SparseCore's part is its tiles'.
-/
module

public import proofs.«01_k».proof.Proof.Deal

@[expose] public section

noncomputable section

namespace Cert.Proof.Enc

open Cert.KernelIdeal Cert.KernelIdeal.Gen
open Cert.Proof.Words
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- What a tile runs. -/
theorem defs₀_vector (c : Fin τ.nSC) (s : Fin τ.nSub) :
    defs₀ (F := F) (.scVector c s) 0 ()
      = SparseCore.onTile hcore0 hsub0 (fun c s => cc0_run (coordsV c s) (Memref.whole main_arg0_scv) (Memref.isWhole_whole _) (Memref.whole main_v2_scv) (Memref.isWhole_whole _) (Memref.whole main_v5_scv) (Memref.isWhole_whole _) (Memref.whole main_arg2_scv) (Memref.isWhole_whole _) (Memref.whole main_arg3_scv) (Memref.isWhole_whole _) (Memref.whole main_v6_scv) (Memref.isWhole_whole _) (Memref.whole cc0_scratch0) (Memref.isWhole_whole _) (Memref.whole cc0_scratch1) (Memref.isWhole_whole _) cc0_scratch2 cc0_scratch3 (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7) ⟨⟩ c s := rfl

section Tile

variable {A : Ins F} (d : Dev nD) (c : Fin 2) (s : Fin 16)

/-- A tile's task, from what the launch hands it to what it hands back. -/
theorem tile_body (hF : (K (F := F)).Facts) (O : CellTallies nD τ sig (HIx 1)) (W : Waits sig (HIx 1)) (hO : ∀ g, O g none = 0) :
    iprop(levAts (K (F := F)).L (K (F := F)).lev ∗ emp ∗ need A d c s
        ∗ scopedBufs (thr d (coordsV c s)) ∗ scopedSems0 (thr d (coordsV c s)) ∗ owes (thr d (coordsV c s)) O W)
      ⊢ twp d (coordsV c s) (cc0_run (coordsV c s) (Memref.whole main_arg0_scv) (Memref.isWhole_whole _) (Memref.whole main_v2_scv) (Memref.isWhole_whole _) (Memref.whole main_v5_scv) (Memref.isWhole_whole _) (Memref.whole main_arg2_scv) (Memref.isWhole_whole _) (Memref.whole main_arg3_scv) (Memref.isWhole_whole _) (Memref.whole main_v6_scv) (Memref.isWhole_whole _) (Memref.whole cc0_scratch0) (Memref.isWhole_whole _) (Memref.whole cc0_scratch1) (Memref.isWhole_whole _) cc0_scratch2 cc0_scratch3 (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7)
          fun _ => iprop(give A d c s ∗ scopedBufs (thr d (coordsV c s)) ∗ scopedSems0 (thr d (coordsV c s))
            ∗ ∃ W', ⌜∀ p ∈ W', p ∈ W ∨ p.2 = none⌝ ∗ owes (thr d (coordsV c s)) O W') := by
  rw [(K (F := F)).scopedBufs_V hF d ((coordsV c s 0).castLE hcore0) ((coordsV c s 1).castLE hsub0),
    SparseCore.Cfg.scopedSems0_V (Val := Elt F) d ((coordsV c s 0).castLE hcore0) ((coordsV c s 1).castLE hsub0)]
  unfold need give
  iintro ⟨#Hlv, -, ⟨HS, HT⟩, HB, HZ, HO⟩
  ihave HM := (show levAts (K (F := F)).L (K (F := F)).lev ⊢ Mw d (coordsV c s) O from
    (K (F := F)).mayWaits_none (thr := thr d (coordsV c s)) hO) $$ Hlv
  ihave H := (slots_of (A := A) (d := d) (i := coordsV c s) (q := tileShare c s)) $$ [HS HB HZ]
  · iframe HS HB; iexact HZ
  icases H with ⟨HS, HB, HZ⟩
  iapply (run13 (A := A) (d := d) (i := coordsV c s) (q := tileShare c s) (O := O) (W := W)) $$ [HM HS HT HO]
  · iframe HM HS HT
    unfold Ow
    iexists W
    isplitr
    · ipureintro; exact fun p hp => .inl hp
    · iexact HO
  unfold Ow
  iintro ⟨HS, HD, HO⟩
  ihave H := (of_slots (A := A) (d := d) (i := coordsV c s) (q := tileShare c s)) $$ [HS HB HZ]
  · iframe HS HB; iexact HZ
  icases H with ⟨HS, HB, HZ⟩
  iframe HS HD HB HZ
  iexact HO

end Tile

/-! ## The launch's obligations -/

variable (m : (ℓ : Loc nD τ sig) → Buf (Elt F) ℓ)

/-- Every position names a row of its table. -/
def PreOK (m : (ℓ : Loc nD τ sig) → Buf (Elt F) ℓ) : Prop := ∀ (d : Dev nD) (j : S262144x2.Idx), BitVec.toNat (m ((SparseCore.T d).loc main_arg1) j : BitVec 32) < 50

/-- A column of the positions, in rows of sixty-four. -/
def list0 (p : S262144x2.Idx → Elt F .i32) : S4096x64.Idx → Elt F .i32 :=
  shapeCast S4096x64 (shapeCast S262144 (extractStridedSlice S262144x1 ![0, 0] p slices_S262144x2_S262144x1_0_0) shapeCasts_S262144x1_S262144) shapeCasts_S262144_S4096x64
/-- The second list of indices, in rows of 64. -/
def list1 (p : S262144x2.Idx → Elt F .i32) : S4096x64.Idx → Elt F .i32 :=
  shapeCast S4096x64 (shapeCast S262144 (extractStridedSlice S262144x1 ![0, 1] p slices_S262144x2_S262144x1_0_1) shapeCasts_S262144x1_S262144) shapeCasts_S262144_S4096x64

/-- What the call reads of the memory the launch starts with. -/
def ins (h : PreOK m) (d : Dev nD) : Ins F where
  p0 := list0 (m ((SparseCore.T d).loc main_arg1))
  p1 := list1 (m ((SparseCore.T d).loc main_arg1))
  x := m ((SparseCore.T d).loc main_arg0)
  t0 := m ((SparseCore.T d).loc main_arg2)
  t1 := m ((SparseCore.T d).loc main_arg3)
  h0 := fun _ => h d _
  h1 := fun _ => h d _

variable (h : PreOK m)

/-- Each SparseCore takes its tiles' parts, each tile its own. -/
def P : (K (F := F)).Pay (nD := nD) (Val := Elt F) (Name := ℕ) (U := UU) where
  st := fun q d c => match q with | 0 => bigSep Finset.univ fun s : Fin 16 => need (ins m h d) d (show Fin 2 from c) s
  dn := fun q d c => match q with | 0 => bigSep Finset.univ fun s : Fin 16 => give (ins m h d) d (show Fin 2 from c) s
  go := fun q d c s => match q with | 0 => need (ins m h d) d (show Fin 2 from c) (show Fin 16 from s)
  td := fun q d c s => match q with | 0 => give (ins m h d) d (show Fin 2 from c) (show Fin 16 from s)
  x := fun _ _ => iprop(emp)

/-- All that the handshakes carry can be handed over. -/
instance P_storable : (P m h).IsStorable where
  st q d c := match q with
    | 0 => (inferInstance : BI.Storable (upEmb : UEmb _ 𝕄) (bigSep Finset.univ fun s : Fin 16 => need (ins m h d) d (show Fin 2 from c) s))
  dn q d c := match q with
    | 0 => (inferInstance : BI.Storable (upEmb : UEmb _ 𝕄) (bigSep Finset.univ fun s : Fin 16 => give (ins m h d) d (show Fin 2 from c) s))
  go q d c s := match q with
    | 0 => (inferInstance : BI.Storable (upEmb : UEmb _ 𝕄) (need (ins m h d) d (show Fin 2 from c) (show Fin 16 from s)))
  td q d c s := match q with
    | 0 => (inferInstance : BI.Storable (upEmb : UEmb _ 𝕄) (give (ins m h d) d (show Fin 2 from c) (show Fin 16 from s)))

/-- The configuration's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- A tile's waits, weakened to what the launch asks. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'
  isplitr
  · ipureintro; exact fun p hp => (hW' p hp).imp_right Or.inl
  · iexact HO

set_option maxRecDepth 16384 in
/-- What the launch asks of every tile. -/
theorem tileObl (hF : (K (F := F)).Facts) : (K (F := F)).TileObl (D (F := F)) 𝒱 (P m h) v₀ 0 := by
  intro d c i O W hO _ _
  simp only [show (P m h).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (A := ins m h d) d ⟨_, hci.1⟩ ⟨_, hci.2⟩ hF O W hO).trans (wp_mono frame _ _ fun _ => obl_post)

/-- A SparseCore's part is its tiles'. -/
theorem vecSplit : (K (F := F)).VecSplit' (P m h) 0 := by
  intro d c
  show (bigSep Finset.univ fun s : Fin 16 => need (ins m h d) d (show Fin 2 from c) s) ⊢ |={Set.univ}=> iprop(
      (bigSep Finset.univ fun s : Fin 16 => need (ins m h d) d (show Fin 2 from c) s)
      ∗ ((bigSep Finset.univ fun s : Fin 16 => give (ins m h d) d (show Fin 2 from c) s)
          -∗ bigSep Finset.univ fun s : Fin 16 => give (ins m h d) d (show Fin 2 from c) s))
  iintro H
  imodintro
  isplitl [H]; · iexact H
  iintro H
  iexact H

end Cert.Proof.Enc

end
-- ==== Proof.Launch.lean ====
/-
  The launch: the host's operations, the call and the run from a memory to its end.
-/
module

public import proofs.«01_k».proof.Proof.Task

@[expose] public section

noncomputable section

namespace Cert.Proof.Enc

open Cert.KernelIdeal Cert.KernelIdeal.Gen
open Cert.Proof.Words
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (ρ : Dev nD → PrngReg) (h : PreOK m)

/-! ## The launch element -/

/-- The ghost state at the launch. -/
def u₀ : UU := (initOf (K (F := F)).hsCells (K (F := F)).hsToks, 1)

/-- Any number of empty parts is empty. -/
theorem no_parts {I : Type} (s : Finset I) : (bigSep s fun _ => iprop(emp)) = (iprop(emp) : sProp 𝕄) := bigSep_emp_const s

/-- The handshakes' rounds begin; nothing else is set aside. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m h).x q thr) := by
  rw [show (bigSep Finset.univ fun thr : Thread nD τ => bigSep Finset.univ fun q : Fin 1 => (P (F := F) m h).x q thr) = bigSep Finset.univ fun _ => iprop(emp) from
    bigSep_congr fun _ _ => bigSep_univ_of_subsingleton (0 : Fin 1), no_parts, no_parts]
  unfold u₀
  iintro Hu
  ihave H := (ownU_pair (initOf (K (F := F)).hsCells (K (F := F)).hsToks) (1 : Counters)) $$ Hu
  icases H with ⟨HH, -⟩
  imodintro
  isplitl [HH]; · iexact HH
  isplitl []; · iempintro
  iempintro

/-! ## The host's operations -/

/-- The arrays the TensorCore names. -/
abbrev SH : Finset (DevRef τ sig) := {(Proc.devRef .tc (main_arg0 : Ref sig .tc) : DevRef τ sig), (Proc.devRef .tc (main_arg1 : Ref sig .tc) : DevRef τ sig), (Proc.devRef .tc (main_arg2 : Ref sig .tc) : DevRef τ sig), (Proc.devRef .tc (main_arg3 : Ref sig .tc) : DevRef τ sig), (Proc.devRef .tc (main_v0 : Ref sig .tc) : DevRef τ sig), (Proc.devRef .tc (main_v1 : Ref sig .tc) : DevRef τ sig), (Proc.devRef .tc (main_v2 : Ref sig .tc) : DevRef τ sig), (Proc.devRef .tc (main_v3 : Ref sig .tc) : DevRef τ sig), (Proc.devRef .tc (main_v4 : Ref sig .tc) : DevRef τ sig), (Proc.devRef .tc (main_v5 : Ref sig .tc) : DevRef τ sig), (Proc.devRef .tc (main_v6 : Ref sig .tc) : DevRef τ sig)}

/-- The positions' columns are cut out and laid in rows of sixty-four. -/
def ops : List (HloOp τ sig (Elt F)) :=
  [StableHlo.unary main_arg1 main_v0 ((extractStridedSlice S262144x1 ![0, 0] · slices_S262144x2_S262144x1_0_0) : (⟨S262144x2, .i32⟩ : BufTy).Contents (Elt F) → (⟨S262144x1, .i32⟩ : BufTy).Contents (Elt F)),
   StableHlo.reshape main_v0 main_v1 (rfl : (.i32 : EltTy) = .i32) shapeCasts_S262144x1_S262144,
   StableHlo.reshape main_v1 main_v2 (rfl : (.i32 : EltTy) = .i32) shapeCasts_S262144_S4096x64,
   StableHlo.unary main_arg1 main_v3 ((extractStridedSlice S262144x1 ![0, 1] · slices_S262144x2_S262144x1_0_1) : (⟨S262144x2, .i32⟩ : BufTy).Contents (Elt F) → (⟨S262144x1, .i32⟩ : BufTy).Contents (Elt F)),
   StableHlo.reshape main_v3 main_v4 (rfl : (.i32 : EltTy) = .i32) shapeCasts_S262144x1_S262144,
   StableHlo.reshape main_v4 main_v5 (rfl : (.i32 : EltTy) = .i32) shapeCasts_S262144_S4096x64]

/-- Each host operation touches only the arrays held, -/
theorem ops_within : ∀ op ∈ ops (F := F), op.bufs ⊆ SH := by
  intro op hop
  simp only [ops, List.mem_cons, List.not_mem_nil, or_false] at hop
  rcases hop with rfl | rfl | rfl | rfl | rfl | rfl
  · exact show ({(Proc.devRef .tc (main_arg1 : Ref sig .tc) : DevRef τ sig), (Proc.devRef .tc (main_v0 : Ref sig .tc) : DevRef τ sig)} : Finset (DevRef τ sig)) ⊆ SH by decide
  · exact show ({(Proc.devRef .tc (main_v0 : Ref sig .tc) : DevRef τ sig), (Proc.devRef .tc (main_v1 : Ref sig .tc) : DevRef τ sig)} : Finset (DevRef τ sig)) ⊆ SH by decide
  · exact show ({(Proc.devRef .tc (main_v1 : Ref sig .tc) : DevRef τ sig), (Proc.devRef .tc (main_v2 : Ref sig .tc) : DevRef τ sig)} : Finset (DevRef τ sig)) ⊆ SH by decide
  · exact show ({(Proc.devRef .tc (main_arg1 : Ref sig .tc) : DevRef τ sig), (Proc.devRef .tc (main_v3 : Ref sig .tc) : DevRef τ sig)} : Finset (DevRef τ sig)) ⊆ SH by decide
  · exact show ({(Proc.devRef .tc (main_v3 : Ref sig .tc) : DevRef τ sig), (Proc.devRef .tc (main_v4 : Ref sig .tc) : DevRef τ sig)} : Finset (DevRef τ sig)) ⊆ SH by decide
  · exact show ({(Proc.devRef .tc (main_v4 : Ref sig .tc) : DevRef τ sig), (Proc.devRef .tc (main_v5 : Ref sig .tc) : DevRef τ sig)} : Finset (DevRef τ sig)) ⊆ SH by decide
/-- and makes none anew. -/
theorem ops_keep : ∀ op ∈ ops (F := F), op.fresh = ∅ := by
  intro op hop
  simp only [ops, List.mem_cons, List.not_mem_nil, or_false] at hop
  rcases hop with rfl | rfl | rfl | rfl | rfl | rfl <;> rfl

/-- What the arrays hold at the launch, -/
def V0 (d : Dev nD) : Valuation τ sig (Elt F) := fun b => m (d, b)
/-- and what they hold at the call. -/
def V1 (d : Dev nD) : Valuation τ sig (Elt F) := StableHlo.after ops (V0 m d)

/-- The host operations leave `x`, -/
theorem V1_arg0 (d : Dev nD) : V1 m d (Proc.devRef .tc (main_arg0 : Ref sig .tc) : DevRef τ sig) = m ((SparseCore.T d).loc main_arg0) := by
  unfold V1 ops; after_results_simp; rfl
/-- the positions, -/
theorem V1_arg1 (d : Dev nD) : V1 m d (Proc.devRef .tc (main_arg1 : Ref sig .tc) : DevRef τ sig) = m ((SparseCore.T d).loc main_arg1) := by
  unfold V1 ops; after_results_simp; rfl
/-- the first table -/
theorem V1_arg2 (d : Dev nD) : V1 m d (Proc.devRef .tc (main_arg2 : Ref sig .tc) : DevRef τ sig) = m ((SparseCore.T d).loc main_arg2) := by
  unfold V1 ops; after_results_simp; rfl
/-- and the second as they were, -/
theorem V1_arg3 (d : Dev nD) : V1 m d (Proc.devRef .tc (main_arg3 : Ref sig .tc) : DevRef τ sig) = m ((SparseCore.T d).loc main_arg3) := by
  unfold V1 ops; after_results_simp; rfl
/-- compute the first list of indices -/
theorem V1_v2 (d : Dev nD) : V1 m d (Proc.devRef .tc (main_v2 : Ref sig .tc) : DevRef τ sig) = (ins m h d).p0 := by
  unfold V1 ops; after_results_simp; rfl
/-- and the second. -/
theorem V1_v5 (d : Dev nD) : V1 m d (Proc.devRef .tc (main_v5 : Ref sig .tc) : DevRef τ sig) = (ins m h d).p1 := by
  unfold V1 ops; after_results_simp; rfl

/-- The arrays held, one by one. -/
theorem held_SH (d : Dev nD) (W : Valuation τ sig (Elt F)) :
    (StableHlo.held (SparseCore.T d) SH W : sProp 𝕄) = iprop(((SparseCore.T d).loc main_arg0 ↦{fullShare} W (Proc.devRef .tc (main_arg0 : Ref sig .tc) : DevRef τ sig)) ∗ ((SparseCore.T d).loc main_arg1 ↦{fullShare} W (Proc.devRef .tc (main_arg1 : Ref sig .tc) : DevRef τ sig)) ∗ ((SparseCore.T d).loc main_arg2 ↦{fullShare} W (Proc.devRef .tc (main_arg2 : Ref sig .tc) : DevRef τ sig)) ∗ ((SparseCore.T d).loc main_arg3 ↦{fullShare} W (Proc.devRef .tc (main_arg3 : Ref sig .tc) : DevRef τ sig)) ∗ ((SparseCore.T d).loc main_v0 ↦{fullShare} W (Proc.devRef .tc (main_v0 : Ref sig .tc) : DevRef τ sig)) ∗ ((SparseCore.T d).loc main_v1 ↦{fullShare} W (Proc.devRef .tc (main_v1 : Ref sig .tc) : DevRef τ sig)) ∗ ((SparseCore.T d).loc main_v2 ↦{fullShare} W (Proc.devRef .tc (main_v2 : Ref sig .tc) : DevRef τ sig)) ∗ ((SparseCore.T d).loc main_v3 ↦{fullShare} W (Proc.devRef .tc (main_v3 : Ref sig .tc) : DevRef τ sig)) ∗ ((SparseCore.T d).loc main_v4 ↦{fullShare} W (Proc.devRef .tc (main_v4 : Ref sig .tc) : DevRef τ sig)) ∗ ((SparseCore.T d).loc main_v5 ↦{fullShare} W (Proc.devRef .tc (main_v5 : Ref sig .tc) : DevRef τ sig)) ∗ ((SparseCore.T d).loc main_v6 ↦{fullShare} W (Proc.devRef .tc (main_v6 : Ref sig .tc) : DevRef τ sig))) := by
  unfold StableHlo.held SH
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The TensorCore's arrays, one by one. -/
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1) ∗ ((SparseCore.T d).loc main_arg2 ↦{fullShare} W main_arg2) ∗ ((SparseCore.T d).loc main_arg3 ↦{fullShare} W main_arg3) ∗ ((SparseCore.T d).loc main_v0 ↦{fullShare} W main_v0) ∗ ((SparseCore.T d).loc main_v1 ↦{fullShare} W main_v1) ∗ ((SparseCore.T d).loc main_v2 ↦{fullShare} W main_v2) ∗ ((SparseCore.T d).loc main_v3 ↦{fullShare} W main_v3) ∗ ((SparseCore.T d).loc main_v4 ↦{fullShare} W main_v4) ∗ ((SparseCore.T d).loc main_v5 ↦{fullShare} W main_v5) ∗ ((SparseCore.T d).loc main_v6 ↦{fullShare} W main_v6)) := by
  unfold unscopedBufs
  rw [show (Finset.univ.filter fun b : Ref sig .tc => ¬ b.isScoped) = {main_arg0, main_arg1, main_arg2, main_arg3, main_v0, main_v1, main_v2, main_v3, main_v4, main_v5, main_v6} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- They are the arrays held, with the contents of the launch. -/
theorem unscoped_held (d : Dev nD) : (unscopedBufs d (fun b => m ((SparseCore.T d).loc b)) : sProp 𝕄) = StableHlo.held (SparseCore.T d) SH (V0 m d) := by
  rw [unscopedBufs_eq, held_SH]; rfl

/-- The arrays at the call. -/
theorem held_call (d : Dev nD) :
    (StableHlo.held (d.tc : Thread nD τ) SH (StableHlo.after ops (V0 m d)) : sProp 𝕄) ⊢ iprop(arrays (ins m h d) d ∗ ((SparseCore.T d).loc main_arg1 ↦{fullShare} m ((SparseCore.T d).loc main_arg1))
      ∗ (oLoc d ↦{fullShare} V1 m d (Proc.devRef .tc (main_v6 : Ref sig .tc)))) := by
  show (StableHlo.held (SparseCore.T d) SH (V1 m d) : sProp 𝕄) ⊢ _
  rw [held_SH, V1_arg0, V1_arg1, V1_arg2, V1_arg3, V1_v2 m h, V1_v5 m h]
  unfold arrays
  iintro ⟨H0, H1, H2, H3, -, -, P0, -, -, P1, HO⟩
  isplitr [H1 HO]
  · isplitl [H0]; · iexact H0
    isplitl [P0]; · iexact P0
    isplitl [P1]; · iexact P1
    isplitl [H2]; · iexact H2
    iexact H3
  isplitl [H1]; · iexact H1
  iexact HO

/-! ## The call -/

/-- A SparseCore's part is its tiles', taken -/
theorem st_eq (d : Dev nD) (c : Fin ((K (F := F)).nCore 0)) :
    (P m h).st 0 d c = (bigSep Finset.univ fun s : Fin 16 => need (ins m h d) d (show Fin 2 from c) s) := by
  unfold P
  dsimp only
/-- and brought back. -/
theorem dn_eq (d : Dev nD) (c : Fin ((K (F := F)).nCore 0)) :
    (P m h).dn 0 d c = (bigSep Finset.univ fun s : Fin 16 => give (ins m h d) d (show Fin 2 from c) s) := by
  unfold P
  dsimp only

/-- What the call takes, -/
theorem st0_of (d : Dev nD) (f : Buf (Elt F) (oLoc d)) :
    iprop(arrays (ins m h d) d ∗ (oLoc d ↦{fullShare} f)) ⊢ (bigSep Finset.univ fun c : Fin ((K (F := F)).nCore 0) => (P m h).st 0 d c) :=
  (need_of (ins m h d) d f).trans (Entails.of_eq (bigSep_congr fun c _ => st_eq m h d c).symm)
/-- and what it brings back. -/
theorem dn0_eq (d : Dev nD) :
    (bigSep Finset.univ fun c : Fin ((K (F := F)).nCore 0) => (P m h).dn 0 d c)
      = iprop(arrays (ins m h d) d ∗ (oLoc d ↦{fullShare} ((ins m h d).sum : Buf (Elt F) (oLoc d)))) :=
  (bigSep_congr fun c _ => dn_eq m h d c).trans (of_give (ins m h d) d)

/-- The program: the host operations, then the SparseCore's call. -/
theorem main_eq (d : Dev nD) : main (F := F) d = StableHlo.seq ops >>= fun _ => (sc (F := F)).run d 0 := by
  simp only [main, ops, StableHlo.seq]
  rfl

/-- What the launch leaves: the arguments as they were and the result written. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ (oLoc d ↦{fullShare} ((ins m h d).sum : Buf (Elt F) (oLoc d))))

/-- The host's program: its own operations, then the call. -/
theorem hmain (κ : GSem nD τ sig → ℕ) (d : Dev nD) :
    iprop((K (F := F)).ctx EH (P m h) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m h d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (StableHlo.wp_seq 𝒱 none Set.univ d SH (fun _ => (sc (F := F)).run d 0) ops ops_within ops_keep (V0 m d)) $$ [Hb Hheld]
  · isplitl [Hb]; · iexact Hb
    iexact Hheld
  iintro ⟨Hb, Hheld⟩
  ihave Hh := (held_call m h d) $$ Hheld
  icases Hh with ⟨HA, H1, HO⟩
  iapply ((K (F := F)).wp_run (D (F := F)) 𝒱 (EH := EH) (P := P m h) κ d 0) $$ [Hst HA H1 HO Hb Hts]
  isplitr; · iexact Hctx
  isplitl [Hst]; · iexact Hst
  isplitl [HA HO]
  · iapply (st0_of m h d _)
    isplitl [HA]; · iexact HA
    iexact HO
  iintro ⟨Hst, Hdn⟩
  ihave Hdn' := (Entails.of_eq (dn0_eq m h d)) $$ Hdn
  unfold arrays
  icases Hdn' with ⟨⟨H0, -, -, H2, H3⟩, HO⟩
  isplitl [Hst]; · iexact Hst
  isplitr [Hb Hts]
  · isplitl [H0]; · iexact H0
    isplitl [H1]; · iexact H1
    isplitl [H2]; · iexact H2
    isplitl [H3]; · iexact H3
    iexact HO
  isplitl [Hb] <;> iassumption

/-- What is so of a final memory. -/
def fq (d : Dev nD) (s' : Phys nD τ sig (Elt F)) : Prop :=
  s'.mem.mem (oLoc d) = (ins m h d).sum ∧ s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)

/-- An array held outright is what the memory holds. -/
theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%e, HSI, -⟩
  isplitr
  · ipureintro; exact funext fun j => e j (Finset.mem_univ j)
  · iexact HSI

/-- What is owned at the end fixes the contents of memory. -/
theorem hfin (d : Dev nD) (s' : Phys nD τ sig (Elt F)) : iprop(FIN m h d ∗ SI s') ⊢ (⌜fq m h d s'⌝ : sProp 𝕄) := by
  iintro ⟨⟨H0, H1, H2, H3, HO⟩, HSI⟩
  ihave H := (agree s' _ _) $$ [H0 HSI]
  · isplitl [H0] <;> iassumption
  icases H with ⟨%e0, HSI⟩
  ihave H := (agree s' _ _) $$ [H1 HSI]
  · isplitl [H1] <;> iassumption
  icases H with ⟨%e1, HSI⟩
  ihave H := (agree s' _ _) $$ [H2 HSI]
  · isplitl [H2] <;> iassumption
  icases H with ⟨%e2, HSI⟩
  ihave H := (agree s' _ _) $$ [H3 HSI]
  · isplitl [H3] <;> iassumption
  icases H with ⟨%e3, HSI⟩
  ihave H := (agree s' _ _) $$ [HO HSI]
  · isplitl [HO] <;> iassumption
  icases H with ⟨%eO, HSI⟩
  ipureintro; exact ⟨eO, e0, e1, e2, e3⟩

/-! ## The run -/

/-- What a run ends in: the result, the arguments unchanged, and every semaphore at zero. -/
def QC : PUnit × MemSt nD τ sig (Elt F) → Prop := fun r =>
  (∀ d : Dev nD, r.2.mem (oLoc d) = (ins m h d).sum ∧ r.2.mem ((SparseCore.T d).loc main_arg0) = m ((SparseCore.T d).loc main_arg0) ∧ r.2.mem ((SparseCore.T d).loc main_arg1) = m ((SparseCore.T d).loc main_arg1)
    ∧ r.2.mem ((SparseCore.T d).loc main_arg2) = m ((SparseCore.T d).loc main_arg2) ∧ r.2.mem ((SparseCore.T d).loc main_arg3) = m ((SparseCore.T d).loc main_arg3)) ∧ r.2.sem = fun _ => 0

/-- The kernel runs to its end, and what it ends in. -/
theorem run_main [∀ e, Nonempty (Elt F e)] :
    θ_run (Cert.KernelIdeal.defs (F := F)) (Cert.KernelIdeal.threads (F := F)) ⟨m, fun _ => 0, ρ⟩ (QC m h) :=
  SparseCore.Cfg.θ_run_sc_quiescent (K := K (F := F)) (D := D (F := F)) (𝒱 := 𝒱) (EH := EH) (P := P m h) (A := ∅) facts v₀
    (fun q hq => match q with | 0 => nomatch hq)
    (fun q _ => match q with | 0 => tileObl m h facts)
    (fun q _ => match q with | 0 => SparseCore.Cfg.VecSplit.of_plain (vecSplit m h))
    m ρ main (fun _ => iprop(emp)) (FIN m h) (u₀ (F := F)) (sep_elim_left.trans (hu₀ m h)) (hmain m ρ h) (fq m h) (hfin m h) (QC m h) (fun _ hf hz => ⟨hf, hz⟩)

end Cert.Proof.Enc

end
-- ==== Proof.Look.lean ====
/-
  The reference's lookup of a table's rows by a list of positions, read at an entry, and its sum with the rows: the kernel's
  result.
-/
module

public import proofs.«01_k».proof.Proof.Task
public import Idealize.ShloMosaic.Lib.ReduceAll
public import Idealize.ShloMosaic.Lib.Routing.Ops

@[expose] public section

noncomputable section

namespace Cert.Proof.Enc

open Cert.KernelIdeal Cert.KernelIdeal.Gen
open Cert.Proof.Words
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.ValueIdx Idealize.ShloMosaic.Routing

/-! ## A word in range -/

/-- Two tests joined hold just when both do. -/
theorem both_one (p q : Bool) : IntOp.andi (BitVec.ofBool p) (BitVec.ofBool q) = 1#1 ↔ p = true ∧ q = true := by
  cases p <;> cases q <;> decide

/-- A word at least nought and below fifty is its own value. -/
theorem word_of_test (v : BitVec 32) (e : IntOp.andi (IntOp.cmpi .sge v 0#32) (IntOp.cmpi .slt v 50#32) = 1#1) : v.toNat < 50 := by
  simp only [IntOp.cmpi, both_one, BitVec.sle_eq_decide, BitVec.slt_eq_decide, decide_eq_true_eq, BitVec.toInt_eq_toNat_cond,
    BitVec.toNat_ofNat, Nat.reducePow, Nat.reduceMod] at e
  omega

/-- A word below fifty is not negative, -/
theorem word_slt (v : BitVec 32) (h : v.toNat < 50) : IntOp.cmpi .slt v 0#32 = 0#1 := by
  have e : v.slt 0#32 = false := by
    rw [BitVec.slt_eq_decide, decide_eq_false_iff_not]
    simp only [BitVec.toInt_eq_toNat_cond, BitVec.toNat_ofNat, Nat.reducePow, Nat.reduceMod]
    omega
  show BitVec.ofBool (v.slt 0#32) = 0#1
  rw [e]; rfl

/-- and passes both bounds. -/
theorem word_bounds (v : BitVec 32) (h : v.toNat < 50) : IntOp.andi (IntOp.cmpi .sge v 0#32) (IntOp.cmpi .sle v 49#32) = 1#1 := by
  simp only [IntOp.cmpi, both_one, BitVec.sle_eq_decide, decide_eq_true_eq, BitVec.toInt_eq_toNat_cond,
    BitVec.toNat_ofNat, Nat.reducePow, Nat.reduceMod]
  omega

/-! ## A table's rows by a list of positions -/

/-- The conditions the reference's lookup states. -/
structure Conds : Prop where
  b0 : (shape0).BroadcastsInDim (shape1 262144) ![]
  b1 : (shape1 262144).BroadcastsInDim (shape2 262144 1) ![0]
  b2 : (shape0).BroadcastsInDim (shape2 262144 1) ![]
  b3 : (shape2 1 1).BroadcastsInDim (shape2 262144 1) ![0, 1]
  b4 : (shape1 1).BroadcastsInDim (shape2 1 1) ![1]
  b5 : (shape1 262144).BroadcastsInDim (shape2 262144 128) ![0]
  b6 : (shape0).BroadcastsInDim (shape2 262144 128) ![]
  hr : (shape2 262144 1).ReducesTo [1] (shape1 262144)
  hu : 0 < (shape0).numel

/-- The positions, those below nought counted from the end, in a column. -/
def wrapped (C : Conds) (v : IVec (shape1 262144) 32) : IVec (shape2 262144 1) 32 :=
  broadcastInDim (shape2 262144 1) ![0] C.b1 (select (cmpi .slt v (broadcastInDim (shape1 262144) ![] C.b0 (constantI shape0 32 0#32)))
    (addi v (broadcastInDim (shape1 262144) ![] C.b0 (constantI shape0 32 50#32))) v)

variable [FloatOps F]

/-- The rows of a table the positions name, nothing where a position names none. -/
def rows (C : Conds) (d : GatherDims (shape2 50 128) (shape2 262144 1) (shape2 262144 128)) (t : FVec F (shape2 50 128) .f32) (v : IVec (shape1 262144) 32) :
    FVec F (shape2 262144 128) .f32 :=
  select (broadcastInDim (shape2 262144 128) ![0] C.b5 (Host.reduce IntOp.andi
      (andi (cmpi .sge (wrapped C v) (broadcastInDim (shape2 262144 1) ![] C.b2 (constantI shape0 32 0#32)))
        (cmpi .sle (wrapped C v) (broadcastInDim (shape2 262144 1) ![0, 1] C.b3 (broadcastInDim (shape2 1 1) ![1] C.b4 (constantI (shape1 1) 32 49#32)))))
      (constantI shape0 1 1#1) C.hr C.hu))
    (Host.gather d t (wrapped C v)) (broadcastInDim (shape2 262144 128) ![] C.b6 (constant shape0 .f32 0x7FC00000#32))

/-- Positions in range stay as they are. -/
theorem wrapped_at (C : Conds) (v : IVec (shape1 262144) 32) (hv : ∀ r, (v r).toNat < 50) (i : (shape2 262144 1).Idx) :
    wrapped C v i = v (ix1 (i 0)) := by
  have hx : ∀ r, select (cmpi .slt v (broadcastInDim (shape1 262144) ![] C.b0 (constantI shape0 32 0#32)))
      (addi v (broadcastInDim (shape1 262144) ![] C.b0 (constantI shape0 32 50#32))) v r = v r := by
    intro r
    show Scalar.select (IntOp.cmpi .slt (v r) 0#32) _ (v r) = v r
    rw [word_slt _ (hv r)]
    rfl
  unfold wrapped
  refine (hx _).trans (congrArg v ?_)
  funext a
  match a with
  | ⟨0, _⟩ => rfl

/-- A row looked up is the table's row. -/
theorem rows_at (C : Conds) (d : GatherDims (shape2 50 128) (shape2 262144 1) (shape2 262144 128)) (hoff : d.offsetDims = [1])
    (hcoll : d.collapsedSliceDims = [0]) (hob : d.operandBatchingDims = []) (hsim : d.startIndexMap = [0]) (hivd : d.indexVectorDim = 1)
    (t : FVec F (shape2 50 128) .f32) (v : IVec (shape1 262144) 32) (hv : ∀ r, (v r).toNat < 50) (r : Fin 262144) (c : Fin 128) :
    rows C d t v (ix2 r c) = t (ix2 ⟨(v (ix1 r)).toNat, hv _⟩ c) := by
  have hm : ∀ j, Host.reduce IntOp.andi
      (andi (cmpi .sge (wrapped C v) (broadcastInDim (shape2 262144 1) ![] C.b2 (constantI shape0 32 0#32)))
        (cmpi .sle (wrapped C v) (broadcastInDim (shape2 262144 1) ![0, 1] C.b3 (broadcastInDim (shape2 1 1) ![1] C.b4 (constantI (shape1 1) 32 49#32)))))
      (constantI shape0 1 1#1) C.hr C.hu j = 1#1 := by
    intro j
    refine Host.reduce_andi_one _ _ _ _ _ rfl fun i => ?_
    show IntOp.andi (IntOp.cmpi .sge (wrapped C v i) 0#32) (IntOp.cmpi .sle (wrapped C v i) 49#32) = 1#1
    exact word_bounds _ (by rw [wrapped_at C v hv]; exact hv _)
  have hg : Host.gather d t (wrapped C v) (ix2 r c) = t (ix2 ⟨(v (ix1 r)).toNat, hv _⟩ c) :=
    gather_row d hoff hcoll hob hsim hivd t (wrapped C v) r c ⟨(v (ix1 r)).toNat, hv _⟩
      (by rw [wrapped_at C v hv]; exact ((BitVec.ofNat_toNat 32 _).trans (BitVec.setWidth_eq _)).symm) (by norm_num)
  have hs : ∀ (m : IVec (shape2 262144 128) 1) (a b : FVec F (shape2 262144 128) .f32) (j : (shape2 262144 128).Idx), m j = 1#1 → select m a b j = a j := by
    intro m a b j e
    show Scalar.select (m j) (a j) (b j) = a j
    rw [e]
    rfl
  have hb : ∀ (x : IVec (shape1 262144) 1), (∀ j, x j = 1#1) → ∀ j, broadcastInDim (shape2 262144 128) ![0] C.b5 x j = 1#1 := fun x hx j => hx _
  unfold rows
  exact (hs _ _ _ _ (hb _ hm _)).trans hg

/-! ## The sum -/

/-- The positions' columns. -/
def col0 (p : IVec S262144x2 32) : IVec S262144 32 := shapeCast S262144 (extractStridedSlice S262144x1 ![0, 0] p slices_S262144x2_S262144x1_0_0) shapeCasts_S262144x1_S262144
/-- The second column of the positions. -/
def col1 (p : IVec S262144x2 32) : IVec S262144 32 := shapeCast S262144 (extractStridedSlice S262144x1 ![0, 1] p slices_S262144x2_S262144x1_0_1) shapeCasts_S262144x1_S262144

/-- A column laid in rows of sixty-four, at a result's entry, is the column at the entry's row. -/
theorem laid (v : IVec S262144 32) (y : S262144x256.Idx) : shapeCast S4096x64 v shapeCasts_S262144_S4096x64 (ent y) = v (ix1 (y 0)) := by
  refine shapeCast_apply v _ _ _ ?_
  rw [Shape.rowMajor_val_two, Shape.rowMajor_val_one]
  show (y 0).val = (y 0).val / 64 * 64 + (y 0).val % 64
  omega

/-- The reference's sum of the rows and the rows looked up in the two tables is what the kernel leaves. -/
theorem sum_of_rows (C : Conds) (d : GatherDims (shape2 50 128) (shape2 262144 1) (shape2 262144 128)) (hoff : d.offsetDims = [1])
    (hcoll : d.collapsedSliceDims = [0]) (hob : d.operandBatchingDims = []) (hsim : d.startIndexMap = [0]) (hivd : d.indexVectorDim = 1)
    (hc : Shape.Concatenates [shape2 262144 128, shape2 262144 128] S262144x256 1)
    (A : Ins F) (p : IVec S262144x2 32) (hp : ∀ j, (p j).toNat < 50) (e0 : A.p0 = list0 p) (e1 : A.p1 = list1 p) :
    addf (A.x : FVec F S262144x256 .f32)
        (concatenate S262144x256 1 [⟨shape2 262144 128, rows C d A.t0 (col0 p)⟩, ⟨shape2 262144 128, rows C d A.t1 (col1 p)⟩] hc) = A.sum := by
  unfold Ins.sum
  refine congrArg (addf _) (funext fun y => ?_)
  have hy : (y 1).val < 256 := (y 1).isLt
  by_cases h : (y 1).val < 128
  · refine (concatenate_pair_apply_left (t := S262144x256) 1 _ _ hc y rfl (ix2 (y 0) ⟨(y 1).val, h⟩) (fun b => match b with | ⟨0, _⟩ => rfl | ⟨1, _⟩ => rfl)).trans ?_
    refine (rows_at C d hoff hcoll hob hsim hivd A.t0 (col0 p) (fun _ => hp _) (y 0) _).trans ?_
    unfold Ins.pick
    rw [dif_pos h]
    have e : A.p0 (ent y) = col0 p (ix1 (y 0)) := by rw [e0]; exact laid (col0 p) y
    refine congrArg A.t0 (funext fun a => ?_)
    match a with
    | ⟨0, _⟩ => exact Fin.ext (congrArg BitVec.toNat e).symm
    | ⟨1, _⟩ => rfl
  · refine (concatenate_pair_apply_right (t := S262144x256) 1 _ _ hc y rfl rfl (ix2 (y 0) ⟨(y 1).val - 128, by omega⟩)
        (fun b hb => match b with | ⟨0, _⟩ => rfl | ⟨1, _⟩ => absurd rfl hb) (show (y 1).val - 128 + 128 = (y 1).val by omega)).trans ?_
    refine (rows_at C d hoff hcoll hob hsim hivd A.t1 (col1 p) (fun _ => hp _) (y 0) _).trans ?_
    unfold Ins.pick
    rw [dif_neg h]
    have e : A.p1 (ent y) = col1 p (ix1 (y 0)) := by rw [e1]; exact laid (col1 p) y
    refine congrArg A.t1 (funext fun a => ?_)
    match a with
    | ⟨0, _⟩ => exact Fin.ext (congrArg BitVec.toNat e).symm
    | ⟨1, _⟩ => rfl

/-- The precondition says that every position names a row. -/
theorem ok_of_pre (x : FVec F S262144x256 .f32) (p : IVec S262144x2 32) (t0 t1 : FVec F S50x128 .f32)
    (e : Cert.Pre_in_range.fn (F := F) x p t0 t1 = fun _ => 1#1) (j : S262144x2.Idx) : (p j).toNat < 50 := by
  have hs : Subsingleton (Cert.Pre_in_range.S_).Idx := ⟨fun a b => funext fun k => k.elim0⟩
  exact word_of_test _ (Host.reduce_andi_all _ _ _ _ (fun k => k.elim0) (congrFun e _) j)

end Cert.Proof.Enc

end
-- ==== Proof.Refs.lean ====
/-
  What the reference computes, from the arguments the kernel reads, is the kernel's result.
-/
module

public import proofs.«01_k».proof.Proof.Look
public import proofs.«01_k».proof.Proof.Gen.ReferenceIdeal
public import proofs.«01_k».proof.Proof.Gen.ReferenceIdeal.Run
public import proofs.«01_k».proof.Proof.Gen.Reference
public import proofs.«01_k».proof.Proof.Gen.Reference.Run

@[expose] public section

noncomputable section

namespace Cert.Proof.Enc

open Cert.KernelIdeal Cert.KernelIdeal.Gen
open Cert.Proof.Words
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F] (m : (ℓ : Loc nD τ sig) → Buf (Elt F) ℓ)

/-- The conditions the lookups of `Reference` state. -/
theorem conds_Reference : Conds :=
  ⟨Cert.Reference.Gen.bcast_S_S262144, Cert.Reference.Gen.bcast_S262144_S262144x1_0, Cert.Reference.Gen.bcast_S_S262144x1, Cert.Reference.Gen.bcast_S1x1_S262144x1_0_1,
    Cert.Reference.Gen.bcast_S1_S1x1_1, Cert.Reference.Gen.bcast_S262144_S262144x128_0, Cert.Reference.Gen.bcast_S_S262144x128, Cert.Reference.Gen.reducesTo_S262144x1_S262144_d1,
    Cert.Reference.Gen.h_S_⟩

/-- What `Reference` computes of the arguments the kernel reads. -/
theorem value_Reference (m' : (ℓ : Loc Cert.Reference.nD Cert.Reference.τ Cert.Reference.sig) → Buf (Elt F) ℓ) (c : Dev nD) (h : PreOK m)
    (e0 : m' ((c.tc : Thread Cert.Reference.nD Cert.Reference.τ).loc Cert.Reference.main_arg0) = m ((SparseCore.T c).loc main_arg0))
    (e1 : m' ((c.tc : Thread Cert.Reference.nD Cert.Reference.τ).loc Cert.Reference.main_arg1) = m ((SparseCore.T c).loc main_arg1))
    (e2 : m' ((c.tc : Thread Cert.Reference.nD Cert.Reference.τ).loc Cert.Reference.main_arg2) = m ((SparseCore.T c).loc main_arg2))
    (e3 : m' ((c.tc : Thread Cert.Reference.nD Cert.Reference.τ).loc Cert.Reference.main_arg3) = m ((SparseCore.T c).loc main_arg3)) :
    Cert.Reference.Value.res_main_v7 m' c = (ins m h c).sum := by
  unfold Cert.Reference.Value.res_main_v7
  rw [e0, e1, e2, e3]
  exact sum_of_rows conds_Reference Cert.Reference.gather_S50x128_S262144x1_S262144x128_1_0_n_n_0_1_1128 rfl rfl rfl rfl rfl
    Cert.Reference.Gen.concatenates_S262144x128_S262144x128_S262144x256_d1 (ins m h c) (m ((SparseCore.T c).loc main_arg1)) (h c) rfl rfl

/-- The conditions the lookups of `ReferenceIdeal` state. -/
theorem conds_ReferenceIdeal : Conds :=
  ⟨Cert.ReferenceIdeal.Gen.bcast_S_S262144, Cert.ReferenceIdeal.Gen.bcast_S262144_S262144x1_0, Cert.ReferenceIdeal.Gen.bcast_S_S262144x1, Cert.ReferenceIdeal.Gen.bcast_S1x1_S262144x1_0_1,
    Cert.ReferenceIdeal.Gen.bcast_S1_S1x1_1, Cert.ReferenceIdeal.Gen.bcast_S262144_S262144x128_0, Cert.ReferenceIdeal.Gen.bcast_S_S262144x128, Cert.ReferenceIdeal.Gen.reducesTo_S262144x1_S262144_d1,
    Cert.ReferenceIdeal.Gen.h_S_⟩

/-- What `ReferenceIdeal` computes of the arguments the kernel reads. -/
theorem value_ReferenceIdeal (m' : (ℓ : Loc Cert.ReferenceIdeal.nD Cert.ReferenceIdeal.τ Cert.ReferenceIdeal.sig) → Buf (Elt F) ℓ) (c : Dev nD) (h : PreOK m)
    (e0 : m' ((c.tc : Thread Cert.ReferenceIdeal.nD Cert.ReferenceIdeal.τ).loc Cert.ReferenceIdeal.main_arg0) = m ((SparseCore.T c).loc main_arg0))
    (e1 : m' ((c.tc : Thread Cert.ReferenceIdeal.nD Cert.ReferenceIdeal.τ).loc Cert.ReferenceIdeal.main_arg1) = m ((SparseCore.T c).loc main_arg1))
    (e2 : m' ((c.tc : Thread Cert.ReferenceIdeal.nD Cert.ReferenceIdeal.τ).loc Cert.ReferenceIdeal.main_arg2) = m ((SparseCore.T c).loc main_arg2))
    (e3 : m' ((c.tc : Thread Cert.ReferenceIdeal.nD Cert.ReferenceIdeal.τ).loc Cert.ReferenceIdeal.main_arg3) = m ((SparseCore.T c).loc main_arg3)) :
    Cert.ReferenceIdeal.Value.res_main_v7 m' c = (ins m h c).sum := by
  unfold Cert.ReferenceIdeal.Value.res_main_v7
  rw [e0, e1, e2, e3]
  exact sum_of_rows conds_ReferenceIdeal Cert.ReferenceIdeal.gather_S50x128_S262144x1_S262144x128_1_0_n_n_0_1_1128 rfl rfl rfl rfl rfl
    Cert.ReferenceIdeal.Gen.concatenates_S262144x128_S262144x128_S262144x256_d1 (ins m h c) (m ((SparseCore.T c).loc main_arg1)) (h c) rfl rfl

end Cert.Proof.Enc

end
-- ==== Proof.lean ====
/-
  The claims: the kernel runs to its end with its arguments unchanged, every semaphore at zero and its result the
  reference's, at the words of the machine and at exact arithmetic alike. One run, for any float values, serves every claim
  of the kernel (Proof/Launch.lean), and the reference's value is brought to the kernel's in Proof/Refs.lean.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_in_range
public import proofs.«01_k».proof.Proof.Launch
public import proofs.«01_k».proof.Proof.Refs
public import Idealize.ShloMosaic.Adequacy
public import Idealize.ShloMosaic.Init
public import Idealize.ShloMosaic.Lib.Quiescent

@[expose] public section

noncomputable section

namespace Cert.Proof

open Idealize.ShloMosaic Idealize.SL.Sem
open Cert.Proof.Enc (PreOK ins run_main ok_of_pre)

/-- The precondition at the machine's words, -/
theorem ok_kernel (m : (ℓ : Loc Cert.Kernel.nD Cert.Kernel.τ Cert.Kernel.sig) → Buf (Elt Bits) ℓ) (h : Cert.Pre_Kernel m) : PreOK (F := Bits) m :=
  fun d j => ok_of_pre (F := Bits) _ _ _ _ (h d) j
/-- and at exact arithmetic. -/
theorem ok_ideal (m : (ℓ : Loc Cert.KernelIdeal.nD Cert.KernelIdeal.τ Cert.KernelIdeal.sig) → Buf (Elt Ideal) ℓ) (h : Cert.Pre_KernelIdeal m) : PreOK (F := Ideal) m :=
  fun d j => ok_of_pre (F := Ideal) _ _ _ _ (h d) j

/-! ## The frames -/

/-- The kernel's frame, -/
theorem frame_kernel : Cert.quiescent_Kernel := fun m ρ hpre =>
  (θ_run Cert.KernelIdeal.defs _ _).mono (fun _ h => ⟨fun c => (h.1 c).2, h.2⟩) (run_main (F := Bits) m ρ (ok_kernel m hpre))
/-- its frame at exact arithmetic, -/
theorem frame_ideal : Cert.quiescent_KernelIdeal := fun m ρ hpre =>
  (θ_run Cert.KernelIdeal.defs _ _).mono (fun _ h => ⟨fun c => (h.1 c).2, h.2⟩) (run_main (F := Ideal) m ρ (ok_ideal m hpre))
/-- the reference's frame, which declares no semaphore, -/
theorem frame_reference : Cert.quiescent_Reference := fun m ρ _ =>
  (θ_run Cert.Reference.defs _ _).mono (fun _ h => ⟨fun c => (h c).2, sem_eq_zero_of_no_sems rfl _⟩) (Cert.Reference.Value.run (F := Bits) m ρ)
/-- and its frame at exact arithmetic. -/
theorem frame_reference_ideal : Cert.quiescent_ReferenceIdeal := fun m ρ _ =>
  (θ_run Cert.ReferenceIdeal.defs _ _).mono (fun _ h => ⟨fun c => (h c).2, sem_eq_zero_of_no_sems rfl _⟩) (Cert.ReferenceIdeal.Value.run (F := Ideal) m ρ)

/-! ## The values -/

/-- The kernel's result is the reference's at exact arithmetic, -/
theorem value_ideal : Cert.algebraic_KernelIdeal_ReferenceIdeal := fun m ρ m' ρ' hpre hag =>
  ⟨fun c => (ins m (ok_ideal m hpre) c).sum,
    (θ_run Cert.KernelIdeal.defs _ _).mono (fun _ h => h.1) (run_main (F := Ideal) m ρ (ok_ideal m hpre)),
    (θ_run Cert.ReferenceIdeal.defs _ _).mono
      (fun _ h c => ⟨(h c).1.trans (Enc.value_ReferenceIdeal m m' c (ok_ideal m hpre) (hag c).1 (hag c).2.1 (hag c).2.2.1 (hag c).2.2.2), (h c).2⟩)
      (Cert.ReferenceIdeal.Value.run (F := Ideal) m' ρ')⟩
/-- and at the machine's words. -/
theorem value_kernel : Cert.bitexact_Kernel_Reference := fun m ρ m' ρ' hpre hag =>
  ⟨fun c => (ins (F := Bits) m (ok_kernel m hpre) c).sum,
    (θ_run Cert.KernelIdeal.defs _ _).mono (fun _ h => h.1) (run_main (F := Bits) m ρ (ok_kernel m hpre)),
    (θ_run Cert.Reference.defs _ _).mono
      (fun _ h c => ⟨(h c).1.trans (Enc.value_Reference (F := Bits) m m' c (ok_kernel m hpre) (hag c).1 (hag c).2.1 (hag c).2.2.1 (hag c).2.2.2), (h c).2⟩)
      (Cert.Reference.Value.run (F := Bits) m' ρ')⟩

/-- Every claim. -/
theorem claim : Cert.Claim :=
  ⟨Cert.Kernel.Gen.facts, Cert.KernelIdeal.Gen.facts, Cert.ReferenceIdeal.Gen.facts, Cert.Reference.Gen.facts, Cert.Pre_in_range.Gen.facts,
    frame_kernel, frame_ideal, frame_reference_ideal, frame_reference, trivial, value_ideal, value_kernel⟩

end Cert.Proof

end
